-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4x8192 : Shape := ⟨2, ![4, 8192]⟩
abbrev S15x768 : Shape := ⟨2, ![15, 768]⟩
abbrev S8192x768 : Shape := ⟨2, ![8192, 768]⟩
abbrev S30x384 : Shape := ⟨2, ![30, 384]⟩
abbrev S768x768 : Shape := ⟨2, ![768, 768]⟩
abbrev S768 : Shape := ⟨1, ![768]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : IVec S4x8192 32) (main_arg1 : FVec F S15x768 .f32) (main_arg2 : FVec F S8192x768 .f32) (main_arg3 : FVec F S30x384 .f32) (main_arg4 : FVec F S30x384 .f32) (main_arg5 : FVec F S768x768 .f32) (main_arg6 : FVec F S768 .f32) (main_arg7 : FVec F S768 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 15#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S4x8192 : Shape := ⟨2, ![4, 8192]⟩
abbrev S15x768 : Shape := ⟨2, ![15, 768]⟩
abbrev S8192x768 : Shape := ⟨2, ![8192, 768]⟩
abbrev S30x384 : Shape := ⟨2, ![30, 384]⟩
abbrev S768x768 : Shape := ⟨2, ![768, 768]⟩
abbrev S768 : Shape := ⟨1, ![768]⟩
abbrev S1x8192 : Shape := ⟨2, ![1, 8192]⟩
abbrev S128x768 : Shape := ⟨2, ![128, 768]⟩
abbrev S1x1 : Shape := ⟨2, ![1, 1]⟩
abbrev S1x8191 : Shape := ⟨2, ![1, 8191]⟩
abbrev S1x2 : Shape := ⟨2, ![1, 2]⟩
abbrev S1x8190 : Shape := ⟨2, ![1, 8190]⟩
abbrev S1x4 : Shape := ⟨2, ![1, 4]⟩
abbrev S1x8188 : Shape := ⟨2, ![1, 8188]⟩
abbrev S1x8 : Shape := ⟨2, ![1, 8]⟩
abbrev S1x8184 : Shape := ⟨2, ![1, 8184]⟩
abbrev S1x16 : Shape := ⟨2, ![1, 16]⟩
abbrev S1x8176 : Shape := ⟨2, ![1, 8176]⟩
abbrev S1x32 : Shape := ⟨2, ![1, 32]⟩
abbrev S1x8160 : Shape := ⟨2, ![1, 8160]⟩
abbrev S1x64 : Shape := ⟨2, ![1, 64]⟩
abbrev S1x8128 : Shape := ⟨2, ![1, 8128]⟩
abbrev S1x128 : Shape := ⟨2, ![1, 128]⟩
abbrev S1x8064 : Shape := ⟨2, ![1, 8064]⟩
abbrev S1x256 : Shape := ⟨2, ![1, 256]⟩
abbrev S1x7936 : Shape := ⟨2, ![1, 7936]⟩
abbrev S1x512 : Shape := ⟨2, ![1, 512]⟩
abbrev S1x7680 : Shape := ⟨2, ![1, 7680]⟩
abbrev S1x1024 : Shape := ⟨2, ![1, 1024]⟩
abbrev S1x7168 : Shape := ⟨2, ![1, 7168]⟩
abbrev S1x2048 : Shape := ⟨2, ![1, 2048]⟩
abbrev S1x6144 : Shape := ⟨2, ![1, 6144]⟩
abbrev S1x4096 : Shape := ⟨2, ![1, 4096]⟩
abbrev S768x384 : Shape := ⟨2, ![768, 384]⟩
abbrev S30x768 : Shape := ⟨2, ![30, 768]⟩
abbrev S15x1 : Shape := ⟨2, ![15, 1]⟩
abbrev S1x768 : Shape := ⟨2, ![1, 768]⟩
abbrev S2x768 : Shape := ⟨2, ![2, 768]⟩
abbrev S33x768 : Shape := ⟨2, ![33, 768]⟩
abbrev S128 : Shape := ⟨1, ![128]⟩
abbrev S128x1 : Shape := ⟨2, ![128, 1]⟩
abbrev S8192x4 : Shape := ⟨2, ![8192, 4]⟩
abbrev S8192x1 : Shape := ⟨2, ![8192, 1]⟩
abbrev S4x8192x768 : Shape := ⟨3, ![4, 8192, 768]⟩
abbrev S1024x4 : Shape := ⟨2, ![1024, 4]⟩
abbrev S1024x1 : Shape := ⟨2, ![1024, 1]⟩
abbrev S1024x768 : Shape := ⟨2, ![1024, 768]⟩
abbrev S4x1024x768 : Shape := ⟨3, ![4, 1024, 768]⟩
abbrev S1024x128 : Shape := ⟨2, ![1024, 128]⟩
abbrev S4096x128 : Shape := ⟨2, ![4096, 128]⟩
abbrev S4096x768 : Shape := ⟨2, ![4096, 768]⟩
abbrev S1024 : Shape := ⟨1, ![1024]⟩
abbrev S1x1024x768 : Shape := ⟨3, ![1, 1024, 768]⟩

abbrev nBuf : Space → Nat
  | .hbm => 18
  | .vmem => 21
  | .smem => 0
  | _ => 0

abbrev bufTy : (tb : Table) → Fin (tcTables nBuf tb) → BufTy
  | .hbm, ⟨0, _⟩ => ⟨S4x8192, .i32⟩
  | .hbm, ⟨1, _⟩ => ⟨S15x768, .f32⟩
  | .hbm, ⟨2, _⟩ => ⟨S8192x768, .f32⟩
  | .hbm, ⟨3, _⟩ => ⟨S30x384, .f32⟩
  | .hbm, ⟨4, _⟩ => ⟨S30x384, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S1x8192, .i32⟩
  | .hbm, ⟨9, _⟩ => ⟨S128x768, .f32⟩
  | .hbm, ⟨10, _⟩ => ⟨S1x8192, .i32⟩
  | .hbm, ⟨11, _⟩ => ⟨S1x8192, .i32⟩
  | .hbm, ⟨12, _⟩ => ⟨S8192x4, .i32⟩
  | .hbm, ⟨13, _⟩ => ⟨S8192x1, .i32⟩
  | .hbm, ⟨14, _⟩ => ⟨S8192x1, .i32⟩
  | .hbm, ⟨15, _⟩ => ⟨S1x768, .f32⟩
  | .hbm, ⟨16, _⟩ => ⟨S1x768, .f32⟩
  | .hbm, ⟨17, _⟩ => ⟨S4x8192x768, .f32⟩
  | .local _ .vmem, ⟨0, _⟩ => ⟨S1x8192, .i32⟩
  | .local _ .vmem, ⟨1, _⟩ => ⟨S15x768, .f32⟩
  | .local _ .vmem, ⟨2, _⟩ => ⟨S30x384, .f32⟩
  | .local _ .vmem, ⟨3, _⟩ => ⟨S30x384, .f32⟩
  | .local _ .vmem, ⟨4, _⟩ => ⟨S768x768, .f32⟩
  | .local _ .vmem, ⟨5, _⟩ => ⟨S128x768, .f32⟩
  | .local _ .vmem, ⟨6, _⟩ => ⟨S1x8192, .i32⟩
  | .local _ .vmem, ⟨7, _⟩ => ⟨S1x8192, .i32⟩
  | .local _ .vmem, ⟨8, _⟩ => ⟨S1024x4, .i32⟩
  | .local _ .vmem, ⟨9, _⟩ => ⟨S1024x4, .i32⟩
  | .local _ .vmem, ⟨10, _⟩ => ⟨S1024x1, .i32⟩
  | .local _ .vmem, ⟨11, _⟩ => ⟨S1024x1, .i32⟩
  | .local _ .vmem, ⟨12, _⟩ => ⟨S1024x1, .i32⟩
  | .local _ .vmem, ⟨13, _⟩ => ⟨S1024x1, .i32⟩
  | .local _ .vmem, ⟨14, _⟩ => ⟨S1024x768, .f32⟩
  | .local _ .vmem, ⟨15, _⟩ => ⟨S1024x768, .f32⟩
  | .local _ .vmem, ⟨16, _⟩ => ⟨S128x768, .f32⟩
  | .local _ .vmem, ⟨17, _⟩ => ⟨S1x768, .f32⟩
  | .local _ .vmem, ⟨18, _⟩ => ⟨S1x768, .f32⟩
  | .local _ .vmem, ⟨19, _⟩ => ⟨S4x1024x768, .f32⟩
  | .local _ .vmem, ⟨20, _⟩ => ⟨S4x1024x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := .none

abbrev stage0_0 : Fin 1 → Memref sig .tc .vmem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x4 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4x1024x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S4x8192 : Shape := ⟨2, ![4, 8192]⟩
abbrev S15x768 : Shape := ⟨2, ![15, 768]⟩
abbrev S8192x768 : Shape := ⟨2, ![8192, 768]⟩
abbrev S30x384 : Shape := ⟨2, ![30, 384]⟩
abbrev S768x768 : Shape := ⟨2, ![768, 768]⟩
abbrev S768 : Shape := ⟨1, ![768]⟩
abbrev S1x8192 : Shape := ⟨2, ![1, 8192]⟩
abbrev S8192 : Shape := ⟨1, ![8192]⟩
abbrev S_ : Shape := ⟨0, ![]⟩
abbrev S1 : Shape := ⟨1, ![1]⟩
abbrev S4x8192x1 : Shape := ⟨3, ![4, 8192, 1]⟩
abbrev S1x1x1 : Shape := ⟨3, ![1, 1, 1]⟩
abbrev S4x8192x768 : Shape := ⟨3, ![4, 8192, 768]⟩
abbrev S8192x1 : Shape := ⟨2, ![8192, 1]⟩
abbrev S1x1 : Shape := ⟨2, ![1, 1]⟩
abbrev S1x8192x768 : Shape := ⟨3, ![1, 8192, 768]⟩
abbrev S4x8192x384 : Shape := ⟨3, ![4, 8192, 384]⟩
abbrev S1x1x768 : Shape := ⟨3, ![1, 1, 768]⟩

abbrev nBuf : Space → Nat
  | .hbm => 251
  | .vmem => 0
  | .smem => 0
  | _ => 0

abbrev hbmTy0_0 (i : Nat) : BufTy := match i % 128 with
  | 0 => ⟨S4x8192, .i32⟩
  | 1 => ⟨S15x768, .f32⟩
  | 2 => ⟨S8192x768, .f32⟩
  | 3 => ⟨S30x384, .f32⟩
  | 4 => ⟨S30x384, .f32⟩
  | 5 => ⟨S768x768, .f32⟩
  | 6 => ⟨S768, .f32⟩
  | 7 => ⟨S768, .f32⟩
  | 8 => ⟨S1x8192, .i32⟩
  | 9 => ⟨S8192, .i32⟩
  | 10 => ⟨S_, .i32⟩
  | 11 => ⟨S_, .i32⟩
  | 12 => ⟨S_, .i1⟩
  | 13 => ⟨S_, .i32⟩
  | 14 => ⟨S8192, .i32⟩
  | 15 => ⟨S_, .i32⟩
  | 16 => ⟨S8192, .i32⟩
  | 17 => ⟨S_, .i32⟩
  | 18 => ⟨S8192, .i32⟩
  | 19 => ⟨S_, .i32⟩
  | 20 => ⟨S_, .i32⟩
  | 21 => ⟨S_, .i32⟩
  | 22 => ⟨S_, .i1⟩
  | 23 => ⟨S8192, .i32⟩
  | 24 => ⟨S8192, .i32⟩
  | 25 => ⟨S_, .i32⟩
  | 26 => ⟨S_, .i1⟩
  | 27 => ⟨S1, .i32⟩
  | 28 => ⟨S_, .i32⟩
  | 29 => ⟨S_, .i32⟩
  | 30 => ⟨S_, .i1⟩
  | 31 => ⟨S_, .i32⟩
  | 32 => ⟨S_, .i1⟩
  | 33 => ⟨S_, .i32⟩
  | 34 => ⟨S_, .i1⟩
  | 35 => ⟨S_, .i32⟩
  | 36 => ⟨S_, .i1⟩
  | 37 => ⟨S_, .i32⟩
  | 38 => ⟨S_, .i1⟩
  | 39 => ⟨S_, .i1⟩
  | 40 => ⟨S_, .i1⟩
  | 41 => ⟨S_, .i1⟩
  | 42 => ⟨S_, .i1⟩
  | 43 => ⟨S_, .i1⟩
  | 44 => ⟨S_, .i1⟩
  | 45 => ⟨S_, .i1⟩
  | 46 => ⟨S_, .i1⟩
  | 47 => ⟨S_, .i1⟩
  | 48 => ⟨S_, .i32⟩
  | 49 => ⟨S_, .i1⟩
  | 50 => ⟨S_, .i1⟩
  | 51 => ⟨S_, .i32⟩
  | 52 => ⟨S_, .i1⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i1⟩
  | 62 => ⟨S_, .i1⟩
  | 63 => ⟨S_, .i1⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1, .i32⟩
  | 80 => ⟨S8192, .i32⟩
  | 81 => ⟨S1, .i32⟩
  | 82 => ⟨S8192, .i32⟩
  | 83 => ⟨S_, .i32⟩
  | 84 => ⟨S_, .i32⟩
  | 85 => ⟨S_, .i32⟩
  | 86 => ⟨S_, .i32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S_, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S_, .i32⟩
  | 102 => ⟨S4x8192, .i32⟩
  | 103 => ⟨S_, .i32⟩
  | 104 => ⟨S1, .i32⟩
  | 105 => ⟨S4x8192, .i32⟩
  | 106 => ⟨S_, .i32⟩
  | 107 => ⟨S4x8192, .i32⟩
  | 108 => ⟨S_, .i32⟩
  | 109 => ⟨S1, .i32⟩
  | 110 => ⟨S4x8192, .i32⟩
  | 111 => ⟨S_, .i32⟩
  | 112 => ⟨S4x8192, .i32⟩
  | 113 => ⟨S4x8192, .i1⟩
  | 114 => ⟨S_, .i32⟩
  | 115 => ⟨S4x8192, .i32⟩
  | 116 => ⟨S4x8192, .i32⟩
  | 117 => ⟨S4x8192, .i32⟩
  | 118 => ⟨S4x8192x1, .i32⟩
  | 119 => ⟨S1, .i32⟩
  | 120 => ⟨S_, .i32⟩
  | 121 => ⟨S4x8192x1, .i32⟩
  | 122 => ⟨S4x8192x1, .i1⟩
  | 123 => ⟨S1x1x1, .i32⟩
  | 124 => ⟨S4x8192x1, .i32⟩
  | 125 => ⟨S4x8192x1, .i1⟩
  | 126 => ⟨S4x8192x1, .i1⟩
  | 127 => ⟨S_, .i1⟩
  | _ => ⟨S4x8192, .i32⟩

abbrev hbmTy0_1 (i : Nat) : BufTy := match i % 128 with
  | 0 => ⟨S4x8192, .i1⟩
  | 1 => ⟨S4x8192x768, .f32⟩
  | 2 => ⟨S4x8192x768, .i1⟩
  | 3 => ⟨S_, .f32⟩
  | 4 => ⟨S4x8192x768, .f32⟩
  | 5 => ⟨S4x8192x768, .f32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S1, .i32⟩
  | 16 => ⟨S_, .i32⟩
  | 17 => ⟨S8192x1, .i32⟩
  | 18 => ⟨S8192x1, .i1⟩
  | 19 => ⟨S1x1, .i32⟩
  | 20 => ⟨S8192x1, .i32⟩
  | 21 => ⟨S8192x1, .i1⟩
  | 22 => ⟨S8192x1, .i1⟩
  | 23 => ⟨S_, .i1⟩
  | 24 => ⟨S8192, .i1⟩
  | 25 => ⟨S8192x768, .f32⟩
  | 26 => ⟨S8192x768, .i1⟩
  | 27 => ⟨S_, .f32⟩
  | 28 => ⟨S8192x768, .f32⟩
  | 29 => ⟨S8192x768, .f32⟩
  | 30 => ⟨S1x8192x768, .f32⟩
  | 31 => ⟨S_, .i32⟩
  | 32 => ⟨S4x8192, .i32⟩
  | 33 => ⟨S4x8192, .i1⟩
  | 34 => ⟨S_, .i32⟩
  | 35 => ⟨S4x8192, .i32⟩
  | 36 => ⟨S4x8192, .i32⟩
  | 37 => ⟨S4x8192, .i32⟩
  | 38 => ⟨S4x8192x1, .i32⟩
  | 39 => ⟨S1, .i32⟩
  | 40 => ⟨S_, .i32⟩
  | 41 => ⟨S4x8192x1, .i32⟩
  | 42 => ⟨S4x8192x1, .i1⟩
  | 43 => ⟨S1x1x1, .i32⟩
  | 44 => ⟨S4x8192x1, .i32⟩
  | 45 => ⟨S4x8192x1, .i1⟩
  | 46 => ⟨S4x8192x1, .i1⟩
  | 47 => ⟨S_, .i1⟩
  | 48 => ⟨S4x8192, .i1⟩
  | 49 => ⟨S4x8192x384, .f32⟩
  | 50 => ⟨S4x8192x384, .i1⟩
  | 51 => ⟨S_, .f32⟩
  | 52 => ⟨S4x8192x384, .f32⟩
  | 53 => ⟨S4x8192x384, .f32⟩
  | 54 => ⟨S_, .i32⟩
  | 55 => ⟨S4x8192, .i32⟩
  | 56 => ⟨S4x8192, .i1⟩
  | 57 => ⟨S_, .i32⟩
  | 58 => ⟨S4x8192, .i32⟩
  | 59 => ⟨S4x8192, .i32⟩
  | 60 => ⟨S4x8192, .i32⟩
  | 61 => ⟨S4x8192x1, .i32⟩
  | 62 => ⟨S1, .i32⟩
  | 63 => ⟨S_, .i32⟩
  | 64 => ⟨S4x8192x1, .i32⟩
  | 65 => ⟨S4x8192x1, .i1⟩
  | 66 => ⟨S1x1x1, .i32⟩
  | 67 => ⟨S4x8192x1, .i32⟩
  | 68 => ⟨S4x8192x1, .i1⟩
  | 69 => ⟨S4x8192x1, .i1⟩
  | 70 => ⟨S_, .i1⟩
  | 71 => ⟨S4x8192, .i1⟩
  | 72 => ⟨S4x8192x384, .f32⟩
  | 73 => ⟨S4x8192x384, .i1⟩
  | 74 => ⟨S_, .f32⟩
  | 75 => ⟨S4x8192x384, .f32⟩
  | 76 => ⟨S4x8192x384, .f32⟩
  | 77 => ⟨S4x8192x768, .f32⟩
  | 78 => ⟨S768x768, .f32⟩
  | 79 => ⟨S4x8192x768, .f32⟩
  | 80 => ⟨S_, .i32⟩
  | 81 => ⟨S4x8192, .i32⟩
  | 82 => ⟨S4x8192, .i1⟩
  | 83 => ⟨S_, .i32⟩
  | 84 => ⟨S4x8192, .i32⟩
  | 85 => ⟨S4x8192, .i1⟩
  | 86 => ⟨S4x8192, .i1⟩
  | 87 => ⟨S4x8192x1, .i1⟩
  | 88 => ⟨S4x8192x1, .f32⟩
  | 89 => ⟨S4x8192x768, .f32⟩
  | 90 => ⟨S4x8192x768, .f32⟩
  | 91 => ⟨S4x8192x768, .f32⟩
  | 92 => ⟨S4x8192x768, .f32⟩
  | 93 => ⟨S4x8192x768, .f32⟩
  | 94 => ⟨S_, .f32⟩
  | 95 => ⟨S4x8192, .f32⟩
  | 96 => ⟨S4x8192x1, .f32⟩
  | 97 => ⟨S_, .f32⟩
  | 98 => ⟨S4x8192x1, .f32⟩
  | 99 => ⟨S4x8192x1, .f32⟩
  | 100 => ⟨S4x8192x768, .f32⟩
  | 101 => ⟨S4x8192x768, .f32⟩
  | 102 => ⟨S4x8192x768, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x768, .f32⟩
  | 110 => ⟨S4x8192x768, .f32⟩
  | 111 => ⟨S_, .f32⟩
  | 112 => ⟨S4x8192x1, .f32⟩
  | 113 => ⟨S4x8192x1, .f32⟩
  | 114 => ⟨S4x8192x1, .f32⟩
  | 115 => ⟨S4x8192x768, .f32⟩
  | 116 => ⟨S4x8192x768, .f32⟩
  | 117 => ⟨S1x1x768, .f32⟩
  | 118 => ⟨S4x8192x768, .f32⟩
  | 119 => ⟨S4x8192x768, .f32⟩
  | 120 => ⟨S1x1x768, .f32⟩
  | 121 => ⟨S4x8192x768, .f32⟩
  | 122 => ⟨S4x8192x768, .f32⟩
  | _ => ⟨S4x8192, .i32⟩

abbrev hbmTy (i : Nat) : BufTy := match i / 128 with
  | 0 => hbmTy0_0 i
  | 1 => hbmTy0_1 i
  | _ => ⟨S4x8192, .i32⟩

abbrev bufTy : (tb : Table) → Fin (tcTables nBuf tb) → BufTy
  | .hbm, ⟨i, _⟩ => hbmTy i
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v2 : Ref sig .tc := ⟨.hbm, 14, rfl⟩
abbrev main_c_3 : Ref sig .tc := ⟨.hbm, 15, rfl⟩
abbrev main_v3 : Ref sig .tc := ⟨.hbm, 16, rfl⟩
abbrev main_c_4 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_while0c_c_25 : Ref sig .tc := ⟨.hbm, 25, rfl⟩
abbrev main_while0c_v58 : Ref sig .tc := ⟨.hbm, 26, rfl⟩
abbrev main_while0b_call0_v0 : Ref sig .tc := ⟨.hbm, 27, rfl⟩
abbrev main_while0b_v58 : Ref sig .tc := ⟨.hbm, 28, rfl⟩
abbrev main_while0b_c_25 : Ref sig .tc := ⟨.hbm, 29, rfl⟩
abbrev main_while0b_v59 : Ref sig .tc := ⟨.hbm, 30, rfl⟩
abbrev main_while0b_c_26 : Ref sig .tc := ⟨.hbm, 31, rfl⟩
abbrev main_while0b_v60 : Ref sig .tc := ⟨.hbm, 32, rfl⟩
abbrev main_while0b_c_27 : Ref sig .tc := ⟨.hbm, 33, rfl⟩
abbrev main_while0b_v61 : Ref sig .tc := ⟨.hbm, 34, rfl⟩
abbrev main_while0b_c_28 : Ref sig .tc := ⟨.hbm, 35, rfl⟩
abbrev main_while0b_v62 : Ref sig .tc := ⟨.hbm, 36, rfl⟩
abbrev main_while0b_c_29 : Ref sig .tc := ⟨.hbm, 37, rfl⟩
abbrev main_while0b_v63 : Ref sig .tc := ⟨.hbm, 38, rfl⟩
abbrev main_while0b_v64 : Ref sig .tc := ⟨.hbm, 39, rfl⟩
abbrev main_while0b_v65 : Ref sig .tc := ⟨.hbm, 40, rfl⟩
abbrev main_while0b_v66 : Ref sig .tc := ⟨.hbm, 41, rfl⟩
abbrev main_while0b_v67 : Ref sig .tc := ⟨.hbm, 42, rfl⟩
abbrev main_while0b_v68 : Ref sig .tc := ⟨.hbm, 43, rfl⟩
abbrev main_while0b_v69 : Ref sig .tc := ⟨.hbm, 44, rfl⟩
abbrev main_while0b_v70 : Ref sig .tc := ⟨.hbm, 45, rfl⟩
abbrev main_while0b_v71 : Ref sig .tc := ⟨.hbm, 46, rfl⟩
abbrev main_while0b_v72 : Ref sig .tc := ⟨.hbm, 47, rfl⟩
abbrev main_while0b_c_30 : Ref sig .tc := ⟨.hbm, 48, rfl⟩
abbrev main_while0b_v73 : Ref sig .tc := ⟨.hbm, 49, rfl⟩
abbrev main_while0b_v74 : Ref sig .tc := ⟨.hbm, 50, rfl⟩
abbrev main_while0b_c_31 : Ref sig .tc := ⟨.hbm, 51, rfl⟩
abbrev main_while0b_v75 : Ref sig .tc := ⟨.hbm, 52, rfl⟩
abbrev main_while0b_v76 : Ref sig .tc := ⟨.hbm, 53, rfl⟩
abbrev main_while0b_c_32 : Ref sig .tc := ⟨.hbm, 54, rfl⟩
abbrev main_while0b_call1_v0 : Ref sig .tc := ⟨.hbm, 55, rfl⟩
abbrev main_while0b_v77 : Ref sig .tc := ⟨.hbm, 56, rfl⟩
abbrev main_while0b_c_33 : Ref sig .tc := ⟨.hbm, 57, rfl⟩
abbrev main_while0b_call2_v0 : Ref sig .tc := ⟨.hbm, 58, rfl⟩
abbrev main_while0b_v78 : Ref sig .tc := ⟨.hbm, 59, rfl⟩
abbrev main_while0b_c_34 : Ref sig .tc := ⟨.hbm, 60, rfl⟩
abbrev main_while0b_v79 : Ref sig .tc := ⟨.hbm, 61, rfl⟩
abbrev main_while0b_c_35 : Ref sig .tc := ⟨.hbm, 62, rfl⟩
abbrev main_while0b_v80 : Ref sig .tc := ⟨.hbm, 63, rfl⟩
abbrev main_while0b_v81 : Ref sig .tc := ⟨.hbm, 64, rfl⟩
abbrev main_while0b_c_36 : Ref sig .tc := ⟨.hbm, 65, rfl⟩
abbrev main_while0b_v82 : Ref sig .tc := ⟨.hbm, 66, rfl⟩
abbrev main_while0b_v83 : Ref sig .tc := ⟨.hbm, 67, rfl⟩
abbrev main_while0b_c_37 : Ref sig .tc := ⟨.hbm, 68, rfl⟩
abbrev main_while0b_call6_v0 : Ref sig .tc := ⟨.hbm, 69, rfl⟩
abbrev main_while0b_v84 : Ref sig .tc := ⟨.hbm, 70, rfl⟩
abbrev main_while0b_v85 : Ref sig .tc := ⟨.hbm, 71, rfl⟩
abbrev main_while0b_v86 : Ref sig .tc := ⟨.hbm, 72, rfl⟩
abbrev main_while0b_c_38 : Ref sig .tc := ⟨.hbm, 73, rfl⟩
abbrev main_while0b_v87 : Ref sig .tc := ⟨.hbm, 74, rfl⟩
abbrev main_while0b_v88 : Ref sig .tc := ⟨.hbm, 75, rfl⟩
abbrev main_while0b_c_39 : Ref sig .tc := ⟨.hbm, 76, rfl⟩
abbrev main_while0b_call8_v0 : Ref sig .tc := ⟨.hbm, 77, rfl⟩
abbrev main_while0b_v89 : Ref sig .tc := ⟨.hbm, 78, rfl⟩
abbrev main_while0b_call9_v0 : Ref sig .tc := ⟨.hbm, 79, rfl⟩
abbrev main_while0b_v90 : Ref sig .tc := ⟨.hbm, 80, rfl⟩
abbrev main_while0b_call10_v0 : Ref sig .tc := ⟨.hbm, 81, rfl⟩
abbrev main_while0b_v91 : Ref sig .tc := ⟨.hbm, 82, rfl⟩
abbrev main_while0b_c_40 : Ref sig .tc := ⟨.hbm, 83, rfl⟩
abbrev main_while0b_v92 : Ref sig .tc := ⟨.hbm, 84, rfl⟩
abbrev main_c_5 : Ref sig .tc := ⟨.hbm, 85, rfl⟩
abbrev main_c_6 : Ref sig .tc := ⟨.hbm, 86, rfl⟩
abbrev main_call11_v0 : Ref sig .tc := ⟨.hbm, 87, rfl⟩
abbrev main_call11_v1 : Ref sig .tc := ⟨.hbm, 88, rfl⟩
abbrev main_call11_v2 : Ref sig .tc := ⟨.hbm, 89, rfl⟩
abbrev main_call11_v3 : Ref sig .tc := ⟨.hbm, 90, rfl⟩
abbrev main_call11_v4 : Ref sig .tc := ⟨.hbm, 91, rfl⟩
abbrev main_v5 : Ref sig .tc := ⟨.hbm, 92, rfl⟩
abbrev main_c_7 : Ref sig .tc := ⟨.hbm, 93, rfl⟩
abbrev main_c_8 : Ref sig .tc := ⟨.hbm, 94, rfl⟩
abbrev main_call12_v0 : Ref sig .tc := ⟨.hbm, 95, rfl⟩
abbrev main_call12_v1 : Ref sig .tc := ⟨.hbm, 96, rfl⟩
abbrev main_call12_v2 : Ref sig .tc := ⟨.hbm, 97, rfl⟩
abbrev main_call12_v3 : Ref sig .tc := ⟨.hbm, 98, rfl⟩
abbrev main_call12_v4 : Ref sig .tc := ⟨.hbm, 99, rfl⟩
abbrev main_v6 : Ref sig .tc := ⟨.hbm, 100, rfl⟩
abbrev main_c_9 : Ref sig .tc := ⟨.hbm, 101, rfl⟩
abbrev main_v7 : Ref sig .tc := ⟨.hbm, 102, rfl⟩
abbrev main_c_10 : Ref sig .tc := ⟨.hbm, 103, rfl⟩
abbrev main_v8 : Ref sig .tc := ⟨.hbm, 104, rfl⟩
abbrev main_v9 : Ref sig .tc := ⟨.hbm, 105, rfl⟩
abbrev main_c_11 : Ref sig .tc := ⟨.hbm, 106, rfl⟩
abbrev main_v10 : Ref sig .tc := ⟨.hbm, 107, rfl⟩
abbrev main_c_12 : Ref sig .tc := ⟨.hbm, 108, rfl⟩
abbrev main_v11 : Ref sig .tc := ⟨.hbm, 109, rfl⟩
abbrev main_v12 : Ref sig .tc := ⟨.hbm, 110, rfl⟩
abbrev main_call13_c : Ref sig .tc := ⟨.hbm, 111, rfl⟩
abbrev main_call13_v0 : Ref sig .tc := ⟨.hbm, 112, rfl⟩
abbrev main_call13_v1 : Ref sig .tc := ⟨.hbm, 113, rfl⟩
abbrev main_call13_c_0 : Ref sig .tc := ⟨.hbm, 114, rfl⟩
abbrev main_call13_v2 : Ref sig .tc := ⟨.hbm, 115, rfl⟩
abbrev main_call13_v3 : Ref sig .tc := ⟨.hbm, 116, rfl⟩
abbrev main_call13_v4 : Ref sig .tc := ⟨.hbm, 117, rfl⟩
abbrev main_call13_v5 : Ref sig .tc := ⟨.hbm, 118, rfl⟩
abbrev main_call13_c_1 : Ref sig .tc := ⟨.hbm, 119, rfl⟩
abbrev main_call13_c_2 : Ref sig .tc := ⟨.hbm, 120, rfl⟩
abbrev main_call13_v6 : Ref sig .tc := ⟨.hbm, 121, rfl⟩
abbrev main_call13_v7 : Ref sig .tc := ⟨.hbm, 122, rfl⟩
abbrev main_call13_v8 : Ref sig .tc := ⟨.hbm, 123, rfl⟩
abbrev main_call13_v9 : Ref sig .tc := ⟨.hbm, 124, rfl⟩
abbrev main_call13_v10 : Ref sig .tc := ⟨.hbm, 125, rfl⟩
abbrev main_call13_v11 : Ref sig .tc := ⟨.hbm, 126, rfl⟩
abbrev main_call13_c_3 : Ref sig .tc := ⟨.hbm, 127, rfl⟩
abbrev main_call13_v12 : Ref sig .tc := ⟨.hbm, 128, rfl⟩
abbrev main_call13_v13 : Ref sig .tc := ⟨.hbm, 129, rfl⟩
abbrev main_call13_v14 : Ref sig .tc := ⟨.hbm, 130, rfl⟩
abbrev main_call13_cst : Ref sig .tc := ⟨.hbm, 131, rfl⟩
abbrev main_call13_v15 : Ref sig .tc := ⟨.hbm, 132, rfl⟩
abbrev main_v13 : Ref sig .tc := ⟨.hbm, 133, rfl⟩
abbrev main_v14 : Ref sig .tc := ⟨.hbm, 134, rfl⟩
abbrev main_call14_c : Ref sig .tc := ⟨.hbm, 135, rfl⟩
abbrev main_call14_v0 : Ref sig .tc := ⟨.hbm, 136, rfl⟩
abbrev main_call14_v1 : Ref sig .tc := ⟨.hbm, 137, rfl⟩
abbrev main_call14_c_0 : Ref sig .tc := ⟨.hbm, 138, rfl⟩
abbrev main_call14_v2 : Ref sig .tc := ⟨.hbm, 139, rfl⟩
abbrev main_call14_v3 : Ref sig .tc := ⟨.hbm, 140, rfl⟩
abbrev main_call14_v4 : Ref sig .tc := ⟨.hbm, 141, rfl⟩
abbrev main_call14_v5 : Ref sig .tc := ⟨.hbm, 142, rfl⟩
abbrev main_call14_c_1 : Ref sig .tc := ⟨.hbm, 143, rfl⟩
abbrev main_call14_c_2 : Ref sig .tc := ⟨.hbm, 144, rfl⟩
abbrev main_call14_v6 : Ref sig .tc := ⟨.hbm, 145, rfl⟩
abbrev main_call14_v7 : Ref sig .tc := ⟨.hbm, 146, rfl⟩
abbrev main_call14_v8 : Ref sig .tc := ⟨.hbm, 147, rfl⟩
abbrev main_call14_v9 : Ref sig .tc := ⟨.hbm, 148, rfl⟩
abbrev main_call14_v10 : Ref sig .tc := ⟨.hbm, 149, rfl⟩
abbrev main_call14_v11 : Ref sig .tc := ⟨.hbm, 150, rfl⟩
abbrev main_call14_c_3 : Ref sig .tc := ⟨.hbm, 151, rfl⟩
abbrev main_call14_v12 : Ref sig .tc := ⟨.hbm, 152, rfl⟩
abbrev main_call14_v13 : Ref sig .tc := ⟨.hbm, 153, rfl⟩
abbrev main_call14_v14 : Ref sig .tc := ⟨.hbm, 154, rfl⟩
abbrev main_call14_cst : Ref sig .tc := ⟨.hbm, 155, rfl⟩
abbrev main_call14_v15 : Ref sig .tc := ⟨.hbm, 156, rfl⟩
abbrev main_v15 : Ref sig .tc := ⟨.hbm, 157, rfl⟩
abbrev main_v16 : Ref sig .tc := ⟨.hbm, 158, rfl⟩
abbrev main_call15_c : Ref sig .tc := ⟨.hbm, 159, rfl⟩
abbrev main_call15_v0 : Ref sig .tc := ⟨.hbm, 160, rfl⟩
abbrev main_call15_v1 : Ref sig .tc := ⟨.hbm, 161, rfl⟩
abbrev main_call15_c_0 : Ref sig .tc := ⟨.hbm, 162, rfl⟩
abbrev main_call15_v2 : Ref sig .tc := ⟨.hbm, 163, rfl⟩
abbrev main_call15_v3 : Ref sig .tc := ⟨.hbm, 164, rfl⟩
abbrev main_call15_v4 : Ref sig .tc := ⟨.hbm, 165, rfl⟩
abbrev main_call15_v5 : Ref sig .tc := ⟨.hbm, 166, rfl⟩
abbrev main_call15_c_1 : Ref sig .tc := ⟨.hbm, 167, rfl⟩
abbrev main_call15_c_2 : Ref sig .tc := ⟨.hbm, 168, rfl⟩
abbrev main_call15_v6 : Ref sig .tc := ⟨.hbm, 169, rfl⟩
abbrev main_call15_v7 : Ref sig .tc := ⟨.hbm, 170, rfl⟩
abbrev main_call15_v8 : Ref sig .tc := ⟨.hbm, 171, rfl⟩
abbrev main_call15_v9 : Ref sig .tc := ⟨.hbm, 172, rfl⟩
abbrev main_call15_v10 : Ref sig .tc := ⟨.hbm, 173, rfl⟩
abbrev main_call15_v11 : Ref sig .tc := ⟨.hbm, 174, rfl⟩
abbrev main_call15_c_3 : Ref sig .tc := ⟨.hbm, 175, rfl⟩
abbrev main_call15_v12 : Ref sig .tc := ⟨.hbm, 176, rfl⟩
abbrev main_call15_v13 : Ref sig .tc := ⟨.hbm, 177, rfl⟩
abbrev main_call15_v14 : Ref sig .tc := ⟨.hbm, 178, rfl⟩
abbrev main_call15_cst : Ref sig .tc := ⟨.hbm, 179, rfl⟩
abbrev main_call15_v15 : Ref sig .tc := ⟨.hbm, 180, rfl⟩
abbrev main_v17 : Ref sig .tc := ⟨.hbm, 181, rfl⟩
abbrev main_call16_c : Ref sig .tc := ⟨.hbm, 182, rfl⟩
abbrev main_call16_v0 : Ref sig .tc := ⟨.hbm, 183, rfl⟩
abbrev main_call16_v1 : Ref sig .tc := ⟨.hbm, 184, rfl⟩
abbrev main_call16_c_0 : Ref sig .tc := ⟨.hbm, 185, rfl⟩
abbrev main_call16_v2 : Ref sig .tc := ⟨.hbm, 186, rfl⟩
abbrev main_call16_v3 : Ref sig .tc := ⟨.hbm, 187, rfl⟩
abbrev main_call16_v4 : Ref sig .tc := ⟨.hbm, 188, rfl⟩
abbrev main_call16_v5 : Ref sig .tc := ⟨.hbm, 189, rfl⟩
abbrev main_call16_c_1 : Ref sig .tc := ⟨.hbm, 190, rfl⟩
abbrev main_call16_c_2 : Ref sig .tc := ⟨.hbm, 191, rfl⟩
abbrev main_call16_v6 : Ref sig .tc := ⟨.hbm, 192, rfl⟩
abbrev main_call16_v7 : Ref sig .tc := ⟨.hbm, 193, rfl⟩
abbrev main_call16_v8 : Ref sig .tc := ⟨.hbm, 194, rfl⟩
abbrev main_call16_v9 : Ref sig .tc := ⟨.hbm, 195, rfl⟩
abbrev main_call16_v10 : Ref sig .tc := ⟨.hbm, 196, rfl⟩
abbrev main_call16_v11 : Ref sig .tc := ⟨.hbm, 197, rfl⟩
abbrev main_call16_c_3 : Ref sig .tc := ⟨.hbm, 198, rfl⟩
abbrev main_call16_v12 : Ref sig .tc := ⟨.hbm, 199, rfl⟩
abbrev main_call16_v13 : Ref sig .tc := ⟨.hbm, 200, rfl⟩
abbrev main_call16_v14 : Ref sig .tc := ⟨.hbm, 201, rfl⟩
abbrev main_call16_cst : Ref sig .tc := ⟨.hbm, 202, rfl⟩
abbrev main_call16_v15 : Ref sig .tc := ⟨.hbm, 203, rfl⟩
abbrev main_v18 : Ref sig .tc := ⟨.hbm, 204, rfl⟩
abbrev main_v19 : Ref sig .tc := ⟨.hbm, 205, rfl⟩
abbrev main_v20 : Ref sig .tc := ⟨.hbm, 206, rfl⟩
abbrev main_v21 : Ref sig .tc := ⟨.hbm, 207, rfl⟩
abbrev main_c_13 : Ref sig .tc := ⟨.hbm, 208, rfl⟩
abbrev main_v22 : Ref sig .tc := ⟨.hbm, 209, rfl⟩
abbrev main_v23 : Ref sig .tc := ⟨.hbm, 210, rfl⟩
abbrev main_c_14 : Ref sig .tc := ⟨.hbm, 211, rfl⟩
abbrev main_v24 : Ref sig .tc := ⟨.hbm, 212, rfl⟩
abbrev main_v25 : Ref sig .tc := ⟨.hbm, 213, rfl⟩
abbrev main_v26 : Ref sig .tc := ⟨.hbm, 214, rfl⟩
abbrev main_v27 : Ref sig .tc := ⟨.hbm, 215, rfl⟩
abbrev main_v28 : Ref sig .tc := ⟨.hbm, 216, rfl⟩
abbrev main_v29 : Ref sig .tc := ⟨.hbm, 217, rfl⟩
abbrev main_v30 : Ref sig .tc := ⟨.hbm, 218, rfl⟩
abbrev main_v31 : Ref sig .tc := ⟨.hbm, 219, rfl⟩
abbrev main_v32 : Ref sig .tc := ⟨.hbm, 220, rfl⟩
abbrev main_v33 : Ref sig .tc := ⟨.hbm, 221, rfl⟩
abbrev main_cst : Ref sig .tc := ⟨.hbm, 222, rfl⟩
abbrev main_v34 : Ref sig .tc := ⟨.hbm, 223, rfl⟩
abbrev main_v35 : Ref sig .tc := ⟨.hbm, 224, rfl⟩
abbrev main_cst_15 : Ref sig .tc := ⟨.hbm, 225, rfl⟩
abbrev main_v36 : Ref sig .tc := ⟨.hbm, 226, rfl⟩
abbrev main_v37 : Ref sig .tc := ⟨.hbm, 227, rfl⟩
abbrev main_v38 : Ref sig .tc := ⟨.hbm, 228, rfl⟩
abbrev main_v39 : Ref sig .tc := ⟨.hbm, 229, rfl⟩
abbrev main_v40 : Ref sig .tc := ⟨.hbm, 230, rfl⟩
abbrev main_cst_16 : Ref sig .tc := ⟨.hbm, 231, rfl⟩
abbrev main_v41 : Ref sig .tc := ⟨.hbm, 232, rfl⟩
abbrev main_v42 : Ref sig .tc := ⟨.hbm, 233, rfl⟩
abbrev main_cst_17 : Ref sig .tc := ⟨.hbm, 234, rfl⟩
abbrev main_v43 : Ref sig .tc := ⟨.hbm, 235, rfl⟩
abbrev main_v44 : Ref sig .tc := ⟨.hbm, 236, rfl⟩
abbrev main_v45 : Ref sig .tc := ⟨.hbm, 237, rfl⟩
abbrev main_v46 : Ref sig .tc := ⟨.hbm, 238, rfl⟩
abbrev main_cst_18 : Ref sig .tc := ⟨.hbm, 239, rfl⟩
abbrev main_v47 : Ref sig .tc := ⟨.hbm, 240, rfl⟩
abbrev main_v48 : Ref sig .tc := ⟨.hbm, 241, rfl⟩
abbrev main_v49 : Ref sig .tc := ⟨.hbm, 242, rfl⟩
abbrev main_v50 : Ref sig .tc := ⟨.hbm, 243, rfl⟩
abbrev main_v51 : Ref sig .tc := ⟨.hbm, 244, rfl⟩
abbrev main_v52 : Ref sig .tc := ⟨.hbm, 245, rfl⟩
abbrev main_v53 : Ref sig .tc := ⟨.hbm, 246, rfl⟩
abbrev main_v54 : Ref sig .tc := ⟨.hbm, 247, rfl⟩
abbrev main_v55 : Ref sig .tc := ⟨.hbm, 248, rfl⟩
abbrev main_v56 : Ref sig .tc := ⟨.hbm, 249, rfl⟩
abbrev main_v57 : Ref sig .tc := ⟨.hbm, 250, rfl⟩

abbrev nD : Nat := 1
abbrev τ : Topo := Topo.v7x

variable {F : FTy → Type} [FloatOps F]

abbrev main_while0_count : Scf.Loop 32 := ⟨0#32, 8192#32, 1#32⟩
-- ==== Proof.RefFrame.lean ====
/- The reference's frame: its run ends with the argument arrays as launched and every counter at zero. -/
module

public import proofs.«01_k».proof.Proof.Gen.ReferenceIdeal
public import proofs.«01_k».proof.Proof.Gen.ReferenceIdeal.Run

@[expose] public section

noncomputable section

namespace Cert.RefFrame

open Idealize.ShloMosaic Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The reference declares no semaphore. -/
theorem no_sem (s : SemLoc sig) : False := by
  rcases s with s | s
  · exact s.elim0
  · exact s.elim0

/-- The references the stretch `hostOps0_1` writes, in order. -/
abbrev post1_W : List (Ref sig .tc) := [main_c_5, main_c_6]
/-- The stretch `hostOps0_1` writes no other reference. -/
theorem hostOps0_1_writes : (hostOps0_1 : List (HloOp τ sig (Elt F))).Forall fun op => op.writes ⊆ (post1_W.map (Proc.devRef (τ := τ) .tc)).toFinset :=
  forall_writes_sub_of_map rfl

/-- The references the stretch `hostOps0_2` writes, in order. -/
abbrev post2_W : List (Ref sig .tc) := [main_call11_v0, main_call11_v1, main_call11_v2, main_call11_v3, main_call11_v4, main_v5]
/-- The stretch `hostOps0_2` writes no other reference. -/
theorem hostOps0_2_writes : (hostOps0_2 : List (HloOp τ sig (Elt F))).Forall fun op => op.writes ⊆ (post2_W.map (Proc.devRef (τ := τ) .tc)).toFinset :=
  forall_writes_sub_of_map rfl

/-- The references the stretch `hostOps0_3` writes, in order. -/
abbrev post3_W : List (Ref sig .tc) := [main_c_7, main_c_8]
/-- The stretch `hostOps0_3` writes no other reference. -/
theorem hostOps0_3_writes : (hostOps0_3 : List (HloOp τ sig (Elt F))).Forall fun op => op.writes ⊆ (post3_W.map (Proc.devRef (τ := τ) .tc)).toFinset :=
  forall_writes_sub_of_map rfl

/-- The references the stretch `hostOps0_4` writes, in order. -/
abbrev post4_W : List (Ref sig .tc) := [main_call12_v0, main_call12_v1, main_call12_v2, main_call12_v3, main_call12_v4, main_v6]
/-- The stretch `hostOps0_4` writes no other reference. -/
theorem hostOps0_4_writes : (hostOps0_4 : List (HloOp τ sig (Elt F))).Forall fun op => op.writes ⊆ (post4_W.map (Proc.devRef (τ := τ) .tc)).toFinset :=
  forall_writes_sub_of_map rfl

/-- The references the stretch `hostOps0_5` writes, in order. -/
abbrev post5_W : List (Ref sig .tc) := [main_c_9, main_v7, main_c_10, main_v8, main_v9, main_c_11, main_v10, main_c_12, main_v11, main_v12]
/-- The stretch `hostOps0_5` writes no other reference. -/
theorem hostOps0_5_writes : (hostOps0_5 : List (HloOp τ sig (Elt F))).Forall fun op => op.writes ⊆ (post5_W.map (Proc.devRef (τ := τ) .tc)).toFinset :=
  forall_writes_sub_of_map rfl

/-- The references the stretch `hostOps0_6` writes, in order. -/
abbrev post6_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v13]
/-- The stretch `hostOps0_6` writes no other reference. -/
theorem hostOps0_6_writes : (hostOps0_6 : List (HloOp τ sig (Elt F))).Forall fun op => op.writes ⊆ (post6_W.map (Proc.devRef (τ := τ) .tc)).toFinset :=
  forall_writes_sub_of_map rfl

/-- The references the stretch `hostOps0_7` writes, in order. -/
abbrev post7_W : List (Ref sig .tc) := [main_v14]
/-- The stretch `hostOps0_7` writes no other reference. -/
theorem hostOps0_7_writes : (hostOps0_7 : List (HloOp τ sig (Elt F))).Forall fun op => op.writes ⊆ (post7_W.map (Proc.devRef (τ := τ) .tc)).toFinset :=
  forall_writes_sub_of_map rfl

/-- The references the stretch `hostOps0_8` writes, in order. -/
abbrev post8_W : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v15]
/-- The stretch `hostOps0_8` writes no other reference. -/
theorem hostOps0_8_writes : (hostOps0_8 : List (HloOp τ sig (Elt F))).Forall fun op => op.writes ⊆ (post8_W.map (Proc.devRef (τ := τ) .tc)).toFinset :=
  forall_writes_sub_of_map rfl

/-- The references the stretch `hostOps0_9` writes, in order. -/
abbrev post9_W : List (Ref sig .tc) := [main_v16]
/-- The stretch `hostOps0_9` writes no other reference. -/
theorem hostOps0_9_writes : (hostOps0_9 : List (HloOp τ sig (Elt F))).Forall fun op => op.writes ⊆ (post9_W.map (Proc.devRef (τ := τ) .tc)).toFinset :=
  forall_writes_sub_of_map rfl

/-- The references the stretch `hostOps0_10` writes, in order. -/
abbrev post10_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v17]
/-- The stretch `hostOps0_10` writes no other reference. -/
theorem hostOps0_10_writes : (hostOps0_10 : List (HloOp τ sig (Elt F))).Forall fun op => op.writes ⊆ (post10_W.map (Proc.devRef (τ := τ) .tc)).toFinset :=
  forall_writes_sub_of_map rfl

/-- The references the stretch `hostOps0_11` writes, in order. -/
abbrev post11_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v18]
/-- The stretch `hostOps0_11` writes no other reference. -/
theorem hostOps0_11_writes : (hostOps0_11 : List (HloOp τ sig (Elt F))).Forall fun op => op.writes ⊆ (post11_W.map (Proc.devRef (τ := τ) .tc)).toFinset :=
  forall_writes_sub_of_map rfl

/-- The references the stretch `hostOps0_12` writes, in order. -/
abbrev post12_W : List (Ref sig .tc) := [main_v19, main_v20, main_v21, main_c_13, main_v22, main_v23, main_c_14, main_v24, main_v25, main_v26, main_v27, main_v28, main_v29, main_v30, main_v31, main_v32, main_v33, main_cst, main_v34, main_v35, main_cst_15, main_v36, main_v37, main_v38, main_v39, main_v40, main_cst_16, main_v41, main_v42, main_cst_17, main_v43, main_v44, main_v45, main_v46, main_cst_18, main_v47, main_v48, main_v49, main_v50, main_v51, main_v52, main_v53, main_v54, main_v55, main_v56, main_v57]
/-- The stretch `hostOps0_12` writes no other reference. -/
theorem hostOps0_12_writes : (hostOps0_12 : List (HloOp τ sig (Elt F))).Forall fun op => op.writes ⊆ (post12_W.map (Proc.devRef (τ := τ) .tc)).toFinset :=
  forall_writes_sub_of_map rfl

/-- The references of the reference's arguments. -/
abbrev argRefs : List (Ref sig .tc) :=
  [main_arg0, main_arg1, main_arg2, main_arg3, main_arg4, main_arg5, main_arg6, main_arg7]

/-- A stretch that writes the references `W`, none of them an argument, leaves an argument as it was. -/
theorem keep {ops : List (HloOp τ sig (Elt F))} {W : List (Ref sig .tc)}
    (hW : ops.Forall fun op => op.writes ⊆ (W.map (Proc.devRef (τ := τ) .tc)).toFinset)
    (r : Ref sig .tc) (hr : r ∈ argRefs) (V : Valuation τ sig (Elt F))
    (h : ∀ a ∈ argRefs, a ∉ W := by decide +kernel) :
    after ops V (Proc.devRef .tc r) = V (Proc.devRef .tc r) :=
  after_of_writes_sub ops V hW (h r hr)

/-- The operations before the loop leave an argument as it was. -/
theorem pre_keep (r : Ref sig .tc) (hr : r ∈ argRefs) (V : Valuation τ sig (Elt F)) :
    afterL preI V (Proc.devRef .tc r) = V (Proc.devRef .tc r) := by
  rw [afterL_cons, afterL_nil, keep hostOps0_writes r hr]

/-- One run of the loop's body leaves an argument as it was. -/
theorem body_keep (r : Ref sig .tc) (hr : r ∈ argRefs) (V : Valuation τ sig (Elt F)) :
    afterL bodyI V (Proc.devRef .tc r) = V (Proc.devRef .tc r) := by
  simp only [afterL_cons, afterL_nil]
  rw [keep while0Ops0_19_writes r hr,
    keep while0Ops0_18_writes r hr,
    keep while0Ops0_17_writes r hr,
    keep while0Ops0_16_writes r hr,
    keep while0Ops0_15_writes r hr,
    keep while0Ops0_14_writes r hr,
    keep while0Ops0_13_writes r hr,
    keep while0Ops0_12_writes r hr,
    keep while0Ops0_11_writes r hr,
    keep while0Ops0_10_writes r hr,
    keep while0Ops0_9_writes r hr,
    keep while0Ops0_8_writes r hr,
    keep while0Ops0_7_writes r hr,
    keep while0Ops0_6_writes r hr,
    keep while0Ops0_5_writes r hr,
    keep while0Ops0_4_writes r hr,
    keep while0Ops0_3_writes r hr,
    keep while0Ops0_2_writes r hr,
    keep while0Ops0_1_writes r hr,
    keep while0Ops0_writes r hr]

/-- The operations after the loop leave an argument as it was. -/
theorem post_keep (r : Ref sig .tc) (hr : r ∈ argRefs) (V : Valuation τ sig (Elt F)) :
    afterL postI V (Proc.devRef .tc r) = V (Proc.devRef .tc r) := by
  simp only [afterL_cons, afterL_nil]
  rw [keep hostOps0_12_writes r hr,
    keep hostOps0_11_writes r hr,
    keep hostOps0_10_writes r hr,
    keep hostOps0_9_writes r hr,
    keep hostOps0_8_writes r hr,
    keep hostOps0_7_writes r hr,
    keep hostOps0_6_writes r hr,
    keep hostOps0_5_writes r hr,
    keep hostOps0_4_writes r hr,
    keep hostOps0_3_writes r hr,
    keep hostOps0_2_writes r hr,
    keep hostOps0_1_writes r hr]

/-- Before any trip of the loop an argument is as launched. -/
theorem trips_keep (r : Ref sig .tc) (hr : r ∈ argRefs) (c : Dev nD) : ∀ k,
    atK m k c (Proc.devRef .tc r) = m ((c.tc : Thread nD τ).loc r)
  | 0 => pre_keep r hr _
  | k + 1 => (body_keep r hr _).trans ((keep condOps_writes r hr _).trans (trips_keep r hr c k))

/-- At the end an argument is as launched. -/
theorem final_keep (r : Ref sig .tc) (hr : r ∈ argRefs) (c : Dev nD) :
    finalContents condOps preI bodyI postI 8192 m c (Proc.devRef .tc r) = m ((c.tc : Thread nD τ).loc r) :=
  (post_keep r hr _).trans ((keep condOps_writes r hr _).trans (trips_keep m r hr c 8192))

/-- The reference runs to its end with its arguments as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run (defs (F := F)) _ _).mono (fun r h => ?_) (run_fold m ρ)
  have k : ∀ (c : Dev nD) (a : Ref sig .tc), a ∈ argRefs → (Proc.devRef .tc a : DevRef τ sig).isScoped = false →
      r.2.mem ((c.tc : Thread nD τ).loc a) = m ((c.tc : Thread nD τ).loc a) :=
    fun c a ha hs => (h c a hs).trans (final_keep m a ha c)
  exact ⟨fun c =>
    ⟨k c main_arg0 (by decide) rfl, k c main_arg1 (by decide) rfl, k c main_arg2 (by decide) rfl,
      k c main_arg3 (by decide) rfl, k c main_arg4 (by decide) rfl, k c main_arg5 (by decide) rfl,
      k c main_arg6 (by decide) rfl, k c main_arg7 (by decide) rfl⟩,
    funext fun g => (no_sem g.2).elim⟩

end Cert.RefFrame
-- ==== Proof.Scan.lean ====
/- Running folds by doubling, and the grid walk of the tokens as differences of running counts and running maxima. -/
module

public import Idealize.ShloMosaic.PureOps
public import Idealize.ShloMosaic.Lib.WordArith

@[expose] public section

namespace Cert.Scan

open Idealize.ShloMosaic

/-! ## Running folds -/

section Fold

variable {α : Type} (op : α → α → α) (e : α)

/-- The fold of the entries before `j`, from `e`. -/
def run (f : ℕ → α) : ℕ → α
  | 0 => e
  | j + 1 => op (f j) (run f j)

/-- `f` moved up by `d` places, `e` in the places left free. -/
def moved (d : ℕ) (f : ℕ → α) (j : ℕ) : α := if d ≤ j then f (j - d) else e

/-- One doubling step: `f` combined with itself moved up by `d` places. -/
def dstep (d : ℕ) (f : ℕ → α) (j : ℕ) : α := op (f j) (moved e d f j)

/-- The fold of the `n` entries up to and including `j`, those before the first counting as `e`. -/
def window (f : ℕ → α) : ℕ → ℕ → α
  | 0, _ => e
  | n + 1, j => op (f j) (moved e 1 (window f n) j)

variable {op e}

/-- A window that reaches back to the first entry is the whole fold. -/
theorem window_eq_run (f : ℕ → α) : ∀ n j, j < n → window op e f n j = run op e f (j + 1)
  | n + 1, 0, _ => by simp [window, run, moved]
  | n + 1, j + 1, h => by
    have := window_eq_run f n j (by omega)
    simp [window, run, moved, this]

variable (P : α → Prop) (hop : ∀ x y, P x → P y → P (op x y)) (he : P e)
  (hid : ∀ x, P x → op x e = x) (hassoc : ∀ x y z, op (op x y) z = op x (op y z))

include hop he in
/-- A property of the entries that the operation keeps holds of every window. -/
theorem window_prop {f : ℕ → α} (hf : ∀ j, P (f j)) : ∀ n j, P (window op e f n j)
  | 0, _ => he
  | n + 1, j => by
    unfold window moved
    split
    · exact hop _ _ (hf j) (window_prop hf n _)
    · exact hop _ _ (hf j) he

include hop he hid hassoc in
/-- A window of `m + n` entries is the window of the last `m` combined with the window of the `n` before them. -/
theorem window_add {f : ℕ → α} (hf : ∀ j, P (f j)) (n : ℕ) : ∀ m j, 0 < m →
    window op e f (m + n) j = op (window op e f m j) (moved e m (window op e f n) j)
  | 1, j, _ => by
    rw [Nat.add_comm]
    have h1 : window op e f 1 j = f j := by
      simp only [window, moved, ite_self]; exact hid _ (hf j)
    rw [h1]; rfl
  | m + 2, j, _ => by
    have ih := window_add hf n (m + 1)
    rw [show m + 2 + n = (m + 1 + n) + 1 by omega]
    simp only [window]
    rcases j with _ | j
    · have h0 : ∀ (d : ℕ) (g : ℕ → α), moved e (d + 1) g 0 = e := fun d g => if_neg (by omega)
      rw [show (1 : ℕ) = 0 + 1 from rfl, h0, show m + 2 = m + 1 + 1 from rfl, h0, h0, hassoc, hid e he]
    · have h1 : ∀ g : ℕ → α, moved e 1 g (j + 1) = g j := fun g => if_pos (by omega)
      have h2 : ∀ g : ℕ → α, moved e (m + 2) g (j + 1) = moved e (m + 1) g j := fun g => by
        simp only [moved, show m + 2 ≤ j + 1 ↔ m + 1 ≤ j by omega, show j + 1 - (m + 2) = j - (m + 1) by omega]
      rw [h1, h1, h2, ih j (by omega), hassoc]
      rfl

include hop he hid hassoc in
/-- A doubling step doubles a window. -/
theorem dstep_window {f : ℕ → α} (hf : ∀ j, P (f j)) (n : ℕ) (hn : 0 < n) :
    dstep op e n (window op e f n) = window op e f (2 * n) := by
  funext j
  rw [two_mul, window_add P hop he hid hassoc hf n n j hn]
  rfl

/-- Doubling steps at 1, 2, 4, … , `k` of them. -/
def doubled (op : α → α → α) (e : α) (f : ℕ → α) : ℕ → ℕ → α
  | 0 => f
  | k + 1 => dstep op e (2 ^ k) (doubled op e f k)

include hop he hid hassoc in
/-- After `k` doubling steps each of the first `2 ^ k` places holds the fold up to and including it. -/
theorem doubled_eq_run {f : ℕ → α} (hf : ∀ j, P (f j)) (k j : ℕ) (hj : j < 2 ^ k) :
    doubled op e f k j = run op e f (j + 1) := by
  have h : ∀ k, doubled op e f k = window op e f (2 ^ k) := by
    intro k
    induction k with
    | zero =>
      funext j
      simp only [doubled, Nat.pow_zero, window, moved, ite_self]
      exact (hid _ (hf j)).symm
    | succ k ih =>
      rw [doubled, ih, dstep_window P hop he hid hassoc hf _ (Nat.two_pow_pos k), pow_succ, Nat.mul_comm]
  rw [h, window_eq_run f _ j hj]

omit P hop he hid hassoc in
/-- A doubled entry depends only on the entries up to it. -/
theorem doubled_congr {f g : ℕ → α} : ∀ (k j : ℕ), (∀ i ≤ j, f i = g i) → doubled op e f k j = doubled op e g k j
  | 0, j, h => h j le_rfl
  | k + 1, j, h => by
    simp only [doubled, dstep, moved]
    rw [doubled_congr k j h]
    split
    · rw [doubled_congr k (j - 2 ^ k) fun i hi => h i (hi.trans (Nat.sub_le _ _))]
    · rfl

omit P hop he hid hassoc in
/-- A fold depends only on the entries it takes in. -/
theorem run_congr {f g : ℕ → α} : ∀ j, (∀ i < j, f i = g i) → run op e f j = run op e g j
  | 0, _ => rfl
  | j + 1, h => by
    simp only [run]
    rw [h j (by omega), run_congr j fun i hi => h i (by omega)]

end Fold

/-! ## The two folds of the kernel: sums of words, and maxima of words that are at least the fill -/

/-- Running sums of words by doubling. -/
theorem doubled_add (f : ℕ → BitVec 32) (k j : ℕ) (hj : j < 2 ^ k) :
    doubled IntOp.addi 0#32 f k j = run IntOp.addi 0#32 f (j + 1) :=
  doubled_eq_run (fun _ => True) (fun _ _ _ _ => trivial) trivial (fun x _ => by simp [IntOp.addi])
    (fun x y z => by simp [IntOp.addi, BitVec.add_assoc]) (fun _ => trivial) k j hj

/-- The signed maximum of two words is the maximum of their values. -/
theorem toInt_maxsi (x y : BitVec 32) : (IntOp.maxsi x y).toInt = max x.toInt y.toInt := by
  unfold IntOp.maxsi
  by_cases h : y.toInt < x.toInt
  · rw [if_pos (by simpa [BitVec.slt] using h)]; omega
  · rw [if_neg (by simpa [BitVec.slt] using h)]; omega

/-- Running signed maxima by doubling, of words that are at least the fill. -/
theorem doubled_max (e : BitVec 32) (f : ℕ → BitVec 32) (k j : ℕ) (hj : j < 2 ^ k)
    (hf : ∀ i ≤ j, e.toInt ≤ (f i).toInt) : doubled IntOp.maxsi e f k j = run IntOp.maxsi e f (j + 1) := by
  have hg : ∀ i ≤ j, (if i ≤ j then f i else e) = f i := fun i hi => if_pos hi
  rw [← doubled_congr k j hg, ← run_congr (j + 1) fun i hi => hg i (by omega)]
  refine doubled_eq_run (fun x => e.toInt ≤ x.toInt) (fun x y hx hy => ?_) le_rfl (fun x hx => ?_) (fun x y z => ?_)
    (fun i => ?_) k j hj
  · show e.toInt ≤ _
    rw [toInt_maxsi]; exact le_max_of_le_left hx
  · apply BitVec.eq_of_toInt_eq
    rw [toInt_maxsi]; exact max_eq_left hx
  · apply BitVec.eq_of_toInt_eq
    simp only [toInt_maxsi, max_assoc]
  · show e.toInt ≤ _
    split
    · exact hf i ‹_›
    · exact le_rfl

/-! ## A counter with resets -/

/-- The count of the steps `inc` since the last step `reset`. -/
def count (inc reset : ℕ → Bool) : ℕ → BitVec 32
  | 0 => 0#32
  | j + 1 => if reset j then 0#32 else if inc j then count inc reset j + 1#32 else count inc reset j

/-- The running count of the steps `inc`, resets ignored. -/
def total (inc : ℕ → Bool) : ℕ → BitVec 32 := run IntOp.addi 0#32 fun j => (BitVec.ofBool (inc j)).setWidth 32

/-- The running maximum of the total at the steps `reset`. -/
def base (inc reset : ℕ → Bool) : ℕ → BitVec 32 :=
  run IntOp.maxsi 0#32 fun j => if reset j then total inc (j + 1) else 0#32

/-- The total at step `j` is a number at most `j`. -/
theorem total_nat (inc : ℕ → Bool) : ∀ j, ∃ a ≤ j, total inc j = BitVec.ofNat 32 a
  | 0 => ⟨0, le_rfl, rfl⟩
  | j + 1 => by
    obtain ⟨a, ha, h⟩ := total_nat inc j
    refine ⟨(inc j).toNat + a, by have := Bool.toNat_le (inc j); omega, ?_⟩
    show IntOp.addi _ (total inc j) = _
    rw [h]
    cases h' : inc j <;> simp [IntOp.addi, h', BitVec.ofNat_add]

/-- The counter is the total less the total at the last reset. -/
theorem count_eq (inc reset : ℕ → Bool) (hx : ∀ j, reset j = true → inc j = false) (j : ℕ) (hj : j < 2 ^ 31) :
    count inc reset j = IntOp.subi (total inc j) (base inc reset j) := by
  suffices ∃ a z : ℕ, z ≤ a ∧ a ≤ j ∧ total inc j = BitVec.ofNat 32 a ∧ base inc reset j = BitVec.ofNat 32 z
      ∧ count inc reset j = BitVec.ofNat 32 (a - z) by
    obtain ⟨a, z, hz, ha, h1, h2, h3⟩ := this
    rw [h1, h2, h3]
    apply BitVec.eq_of_toNat_eq
    simp only [IntOp.subi, BitVec.toNat_sub, BitVec.toNat_ofNat]
    omega
  induction j with
  | zero => exact ⟨0, 0, le_rfl, le_rfl, rfl, rfl, rfl⟩
  | succ j ih =>
    obtain ⟨a, z, hz, ha, h1, h2, h3⟩ := ih (by omega)
    have ht : total inc (j + 1) = IntOp.addi ((BitVec.ofBool (inc j)).setWidth 32) (BitVec.ofNat 32 a) := by
      rw [← h1]; rfl
    have hb : base inc reset (j + 1) = IntOp.maxsi (if reset j then total inc (j + 1) else 0#32) (BitVec.ofNat 32 z) := by
      rw [← h2]; rfl
    have small : ∀ n : ℕ, n ≤ j → (BitVec.ofNat 32 n).toInt = n := fun n hn =>
      WordArith.toInt_ofNat_small n (by omega)
    rw [count, hb, ht]
    cases hr : reset j
    · simp only [Bool.false_eq_true, if_false]
      have hm : IntOp.maxsi 0#32 (BitVec.ofNat 32 z) = BitVec.ofNat 32 z := by
        apply BitVec.eq_of_toInt_eq
        rw [toInt_maxsi, small z (by omega)]
        simp
      rw [hm]
      cases hi : inc j
      · exact ⟨a, z, hz, by omega, by simp [IntOp.addi], rfl, by simpa using h3⟩
      · refine ⟨a + 1, z, by omega, by omega, ?_, rfl, ?_⟩
        · simp [IntOp.addi, BitVec.ofNat_add, BitVec.add_comm]
        · rw [h3, show a + 1 - z = (a - z) + 1 by omega, BitVec.ofNat_add]; simp
    · simp only [if_true, hx j hr]
      have hs : IntOp.addi ((BitVec.ofBool false).setWidth 32) (BitVec.ofNat 32 a) = BitVec.ofNat 32 a := by
        simp [IntOp.addi]
      have hm : IntOp.maxsi (BitVec.ofNat 32 a) (BitVec.ofNat 32 z) = BitVec.ofNat 32 a := by
        apply BitVec.eq_of_toInt_eq
        rw [toInt_maxsi, small a ha, small z (by omega)]
        omega
      rw [hs, hm]
      exact ⟨a, a, le_rfl, by omega, rfl, rfl, by simp⟩

/-! ## A switch -/

/-- The switch that `on` turns on and `off` turns off. -/
def switch (on off : ℕ → Bool) : ℕ → Bool
  | 0 => false
  | j + 1 => if on j then true else if off j then false else switch on off j

/-- The last step so far at which `p` holds, `-1` if there is none. -/
def last (p : ℕ → Bool) : ℕ → BitVec 32 :=
  run IntOp.maxsi 4294967295#32 fun j => if p j then BitVec.ofNat 32 j else 4294967295#32

/-- The last step's value after one more step. -/
theorem last_succ (p : ℕ → Bool) (j : ℕ) (hj : j < 2 ^ 31) :
    (-1 ≤ (last p j).toInt ∧ (last p j).toInt < j) ∧
      (last p (j + 1)).toInt = if p j then (j : ℤ) else (last p j).toInt := by
  have step : ∀ i, (last p (i + 1)).toInt
      = max (if p i then BitVec.ofNat 32 i else 4294967295#32).toInt (last p i).toInt := fun i => toInt_maxsi _ _
  have m1 : (4294967295#32).toInt = -1 := by decide
  induction j with
  | zero =>
    have h0 : (last p 0).toInt = -1 := m1
    refine ⟨by rw [h0]; omega, ?_⟩
    rw [step, h0]
    cases p 0 <;> simp
  | succ j ih =>
    obtain ⟨⟨h1, h2⟩, h3⟩ := ih (by omega)
    have hb : -1 ≤ (last p (j + 1)).toInt ∧ (last p (j + 1)).toInt < (j + 1 : ℕ) := by
      rw [h3]; split <;> omega
    refine ⟨hb, ?_⟩
    rw [step]
    cases p (j + 1)
    · simp only [Bool.false_eq_true, if_false, m1]; omega
    · simp only [if_true]
      rw [WordArith.toInt_ofNat_small (j + 1) (by omega)]; omega

/-- The switch is on exactly when it was turned on last. -/
theorem switch_eq (on off : ℕ → Bool) (hx : ∀ j, on j = true → off j = false) (j : ℕ) (hj : j < 2 ^ 31) :
    switch on off j = (last off j).slt (last on j) := by
  induction j with
  | zero => rfl
  | succ j ih =>
    have ih := ih (by omega)
    obtain ⟨⟨a1, a2⟩, a3⟩ := last_succ on j (by omega)
    obtain ⟨⟨b1, b2⟩, b3⟩ := last_succ off j (by omega)
    rw [switch, ih]
    simp only [BitVec.slt]
    rw [a3, b3]
    cases h1 : on j
    · cases h2 : off j
      · simp
      · simp; omega
    · simp [hx j h1]; omega

/-- Running maxima of the marks by doubling. -/
theorem doubled_max_mark (p : ℕ → Bool) (j : ℕ) (hj : j < 2 ^ 13) :
    doubled IntOp.maxsi 4294967295#32 (fun j => if p j then BitVec.ofNat 32 j else 4294967295#32) 13 j = last p (j + 1) := by
  refine doubled_max _ _ 13 j hj fun i hi => ?_
  have m1 : (4294967295#32).toInt = -1 := by decide
  rw [m1]
  split
  · rw [WordArith.toInt_ofNat_small i (by omega)]; omega
  · rw [m1]

/-- Running maxima of the totals at the resets by doubling. -/
theorem doubled_max_held (inc reset : ℕ → Bool) (j : ℕ) (hj : j < 2 ^ 13) :
    doubled IntOp.maxsi 0#32 (fun j => if reset j then total inc (j + 1) else 0#32) 13 j = base inc reset (j + 1) := by
  refine doubled_max _ _ 13 j hj fun i hi => ?_
  split
  · obtain ⟨a, ha, h⟩ := total_nat inc (i + 1)
    rw [h, WordArith.toInt_ofNat_small a (by omega)]; simp
  · exact le_rfl

/-! ## The walk over the tokens -/

/-- The token that starts a grid. -/
def isBos (t : BitVec 32) : Bool := t == 11#32
/-- The token between two grids. -/
def isSep (t : BitVec 32) : Bool := t == 13#32
/-- The token that ends a row. -/
def isRow (t : BitVec 32) : Bool := t == 14#32
/-- The tokens that end the grids. -/
def isEnd (t : BitVec 32) : Bool := t == 12#32 || t == 10#32
/-- The colour tokens, 0 to 9. -/
def isCol (t : BitVec 32) : Bool := (0#32).sle t && t.sle 9#32

/-- Whether the walk is within a grid before token `j`. -/
def inGrid (t : ℕ → BitVec 32) : ℕ → Bool := switch (fun j => isBos (t j)) fun j => isEnd (t j)
/-- Whether token `j` is a colour within a grid. -/
def inColor (t : ℕ → BitVec 32) (j : ℕ) : Bool := inGrid t j && isCol (t j)
/-- The row the walk is at before token `j`. -/
def rowAt (t : ℕ → BitVec 32) : ℕ → BitVec 32 := count (fun j => isRow (t j)) fun j => isBos (t j) || isSep (t j)
/-- The column the walk is at before token `j`. -/
def colAt (t : ℕ → BitVec 32) : ℕ → BitVec 32 :=
  count (inColor t) fun j => isBos (t j) || isSep (t j) || isRow (t j)

/-- `x` held between 0 and 29. -/
def held29 (x : BitVec 32) : BitVec 32 := IntOp.minsi 29#32 (IntOp.maxsi 0#32 x)

/-- The row embedded at token `j`. -/
def rowOut (t : ℕ → BitVec 32) (j : ℕ) : BitVec 32 := held29 (if inColor t j then rowAt t j else 0#32)
/-- The column embedded at token `j`. -/
def colOut (t : ℕ → BitVec 32) (j : ℕ) : BitVec 32 := held29 (if inColor t j then colAt t j else 0#32)

/-- A word held between 0 and 29 is one of the first thirty numbers. -/
theorem held29_lt (x : BitVec 32) : (held29 x).toNat < 30 := by
  have h : 0 ≤ (IntOp.maxsi 0#32 x).toInt := by rw [toInt_maxsi]; simp
  have hl := BitVec.isLt (IntOp.maxsi 0#32 x)
  unfold held29 IntOp.minsi
  split
  · decide
  · rename_i hn
    have h29 : (29#32).toInt = 29 := by decide
    simp only [BitVec.slt, h29, decide_eq_true_eq, not_lt] at hn
    rw [BitVec.toInt_eq_toNat_cond] at h hn
    split at hn <;> omega

/-- No colour token is one of the marks. -/
theorem isCol_marks (t : BitVec 32) (h : isCol t = true) :
    isBos t = false ∧ isSep t = false ∧ isRow t = false ∧ isEnd t = false := by
  refine ⟨?_, ?_, ?_, ?_⟩ <;>
  · rw [Bool.eq_false_iff]
    intro h'
    simp only [isBos, isSep, isRow, isEnd, Bool.or_eq_true, beq_iff_eq] at h'
    first
      | (subst h'; exact absurd h (by decide))
      | (rcases h' with h' | h' <;> (subst h'; exact absurd h (by decide)))

/-- The walk is within a grid exactly when the last start comes after the last end. -/
theorem inGrid_eq (t : ℕ → BitVec 32) (j : ℕ) (hj : j < 2 ^ 31) :
    inGrid t j = (last (fun j => isEnd (t j)) j).slt (last (fun j => isBos (t j)) j) :=
  switch_eq _ _ (fun j h => by
    simp only [isBos, beq_iff_eq] at h
    simp [isEnd, h]) j hj

/-- The row is the count of the row tokens less that count at the last start or separator. -/
theorem rowAt_eq (t : ℕ → BitVec 32) (j : ℕ) (hj : j < 2 ^ 31) :
    rowAt t j = IntOp.subi (total (fun j => isRow (t j)) j)
      (base (fun j => isRow (t j)) (fun j => isBos (t j) || isSep (t j)) j) :=
  count_eq _ _ (fun j h => by
    simp only [isBos, isSep, Bool.or_eq_true, beq_iff_eq] at h
    rcases h with h | h <;> simp [isRow, h]) j hj

/-- The column is the count of the colours in a grid less that count at the last start, separator or row token. -/
theorem colAt_eq (t : ℕ → BitVec 32) (j : ℕ) (hj : j < 2 ^ 31) :
    colAt t j = IntOp.subi (total (inColor t) j)
      (base (inColor t) (fun j => isBos (t j) || isSep (t j) || isRow (t j)) j) :=
  count_eq _ _ (fun j h => by
    rw [Bool.eq_false_iff]
    intro hc
    rw [inColor, Bool.and_eq_true] at hc
    obtain ⟨h1, h2, h3, -⟩ := isCol_marks _ hc.2
    simp [h1, h2, h3] at h) j hj

end Cert.Scan
-- ==== Proof.RefScan.lean ====
/- The reference's loop over the tokens: what its buffers hold after each trip. -/
module

public import proofs.«01_k».proof.Proof.RefFrame
public import proofs.«01_k».proof.Proof.Scan
public import Idealize.ShloMosaic.Lib.Pointwise

@[expose] public section

noncomputable section

namespace Cert.RefScan

open Idealize.ShloMosaic Idealize.ShloMosaic.StableHlo Cert.ReferenceIdeal Cert.ReferenceIdeal.Gen Cert.ReferenceIdeal.Value
open Cert.Scan

variable {F : FTy → Type} [FloatOps F] [Named F]

/-- What the carried buffers hold before trip `k` over the tokens `t`. -/
structure Inv (t : ℕ → BitVec 32) (k : ℕ) (V : Valuation τ sig (Elt F)) : Prop where
  tok : ∀ i : S8192.Idx, (V (Proc.devRef .tc main_v4_0) : IVec S8192 32) i = t (i 0).val
  ctr : (V (Proc.devRef .tc main_v4_1) : IVec S_ 32) = fun _ => BitVec.ofNat 32 k
  row : (V (Proc.devRef .tc main_v4_2) : IVec S_ 32) = fun _ => rowAt t k
  col : (V (Proc.devRef .tc main_v4_3) : IVec S_ 32) = fun _ => colAt t k
  grid : (V (Proc.devRef .tc main_v4_4) : IVec S_ 1) = fun _ => BitVec.ofBool (inGrid t k)
  rows : ∀ i : S8192.Idx, (i 0).val < k →
    (V (Proc.devRef .tc main_v4_5) : IVec S8192 32) i = if inColor t (i 0).val then rowAt t (i 0).val else 0#32
  cols : ∀ i : S8192.Idx, (i 0).val < k →
    (V (Proc.devRef .tc main_v4_6) : IVec S8192 32) i = if inColor t (i 0).val then colAt t (i 0).val else 0#32

/-- An array with the entry at `k` replaced. -/
theorem update_apply (x : IVec S8192 32) (u : IVec S_ 32) (k : ℕ) (hk : k < 8192) (i : S8192.Idx) (start : Fin 1 → Int)
    (hs : ∀ a, start a = k) :
    Host.dynamicUpdateSlice x (broadcastInDim S1 ![] bcast_S_S1 u) start updateFits_S8192_S1 i
      = if (i 0).val = k then u ix0 else x i := by
  have hc : ∀ a, Host.clampedStart S8192 S1 updateFits_S8192_S1.1 start a = k := fun a =>
    Host.clampedStart_of_le _ start a k (hs a) (by fin_cases a; exact hk)
  rw [Host.dynamicUpdateSlice_apply]
  by_cases h : (i 0).val = k
  · rw [dif_pos (fun a => by
      fin_cases a
      rw [hc]
      exact ⟨h.ge, (by show _ < k + 1; exact h.symm ▸ Nat.lt_succ_self _)⟩), if_pos h]
    exact congrArg u (funext fun a => a.elim0)
  · rw [dif_neg (fun hn => h (by
      have := hn 0
      rw [hc] at this
      have h2 : (i 0).val < k + 1 := this.2
      omega)), if_neg h]

variable {t : ℕ → BitVec 32} {k : ℕ} {V : Valuation τ sig (Elt F)}

/-- The number `k` as a word, read signed. -/
theorem ctr_toInt (hk : k < 8192) : (BitVec.ofNat 32 k).toInt = k := WordArith.toInt_ofNat_small k (by omega)

/-- The token a trip reads. -/
theorem tok_eq (h : Inv t k V) (hk : k < 8192) : (res_main_while0b_v58 V : IVec S_ 32) = fun _ => t k := by
  funext i
  unfold res_main_while0b_v58
  rw [Pointwise.shapeCast_apply, Host.dynamicSlice_apply, h.tok]
  congr 1
  have e : ∀ (j : S1.Idx), (j 0).val = 0 := fun j => Nat.lt_one_iff.1 (j 0).isLt
  rw [Shape.Idx.norm_def]
  refine (congrArg (_ + ·) (e _)).trans ?_
  rw [Nat.add_zero, Host.clampedStart_of_le _ _ _ k _ (by show k + 1 ≤ 8192; omega)]
  show (((V (Proc.devRef .tc main_v4_1) : IVec S_ 32)) (Shape.Idx.first h_S_)).toInt = k
  rw [h.ctr, ctr_toInt hk]

/-- The marks a trip reads. -/
theorem flags_eq (h : Inv t k V) (hk : k < 8192) :
    (res_main_while0b_v59 V : IVec S_ 1) = (fun _ => BitVec.ofBool (isBos (t k)))
    ∧ (res_main_while0b_v60 V : IVec S_ 1) = (fun _ => BitVec.ofBool (isSep (t k)))
    ∧ (res_main_while0b_v61 V : IVec S_ 1) = (fun _ => BitVec.ofBool (isRow (t k)))
    ∧ (res_main_while0b_v64 V : IVec S_ 1) = (fun _ => BitVec.ofBool (isEnd (t k))) := by
  unfold res_main_while0b_v59 res_main_while0b_v60 res_main_while0b_v61 res_main_while0b_v64
  rw [tok_eq h hk]
  refine ⟨rfl, rfl, rfl, funext fun _ => ?_⟩
  show IntOp.ori (BitVec.ofBool (t k == 12#32)) (BitVec.ofBool (t k == 10#32)) = _
  unfold isEnd
  cases t k == 12#32 <;> cases t k == 10#32 <;> rfl

/-- Whether the token is a colour within a grid. -/
theorem color_eq (h : Inv t k V) (hk : k < 8192) :
    (res_main_while0b_v76 V : IVec S_ 1) = fun _ => BitVec.ofBool (inColor t k) := by
  obtain ⟨h1, h2, h3, h4⟩ := flags_eq h hk
  unfold res_main_while0b_v76
  rw [h1, h2, h3, h4, h.grid, tok_eq h hk]
  funext _
  show IntOp.andi (IntOp.andi (IntOp.andi (IntOp.andi (IntOp.andi (IntOp.andi (BitVec.ofBool (inGrid t k))
    (~~~(BitVec.ofBool (isBos (t k))))) (~~~(BitVec.ofBool (isSep (t k)))))
    (~~~(BitVec.ofBool (isRow (t k))))) (~~~(BitVec.ofBool (isEnd (t k)))))
    (BitVec.ofBool ((0#32).sle (t k)))) (BitVec.ofBool ((t k).sle 9#32)) = _
  unfold inColor
  cases hc : isCol (t k)
  · have := hc
    unfold isCol at this
    revert this
    cases (0#32).sle (t k) <;> cases (t k).sle 9#32 <;> cases inGrid t k <;> cases isBos (t k) <;> cases isSep (t k) <;>
      cases isRow (t k) <;> cases isEnd (t k) <;> decide
  · obtain ⟨e1, e2, e3, e4⟩ := isCol_marks _ hc
    unfold isCol at hc
    rw [Bool.and_eq_true] at hc
    rw [e1, e2, e3, e4, hc.1, hc.2]
    cases inGrid t k <;> rfl

/-- One trip. -/
theorem Inv.step (h : Inv t k V) (hk : k < 8192) : Inv t (k + 1) (STEP V) := by
  obtain ⟨h1, h2, h3, h4⟩ := flags_eq h hk
  have hc := color_eq h hk
  have up : ∀ (x : IVec S8192 32) (w : IVec S_ 32) (f : ℕ → BitVec 32), w = (fun _ => f k) →
      (∀ i : S8192.Idx, (i 0).val < k → x i = if inColor t (i 0).val then f (i 0).val else 0#32) →
      ∀ i : S8192.Idx, (i 0).val < k + 1 →
      Host.dynamicUpdateSlice x (broadcastInDim S1 ![] bcast_S_S1
        (select (res_main_while0b_v76 V : IVec S_ 1) w (id (constantI S_ 32 0#32))))
        (fun a => (((![V (Proc.devRef .tc main_v4_1)] : Fin 1 → (⟨S_, .i32⟩ : BufTy).Contents (Elt F))) a
          (Shape.Idx.first h_S_)).toInt) updateFits_S8192_S1 i
        = if inColor t (i 0).val then f (i 0).val else 0#32 := fun x w f hw hx i hi => by
    rw [update_apply _ _ k hk _ _ (fun a => by
      fin_cases a
      show (((V (Proc.devRef .tc main_v4_1) : IVec S_ 32)) (Shape.Idx.first h_S_)).toInt = k
      rw [h.ctr, ctr_toInt hk])]
    split
    · rename_i e
      rw [hc, hw, e]
      show Scalar.select (BitVec.ofBool (inColor t k)) (f k) 0#32 = _
      cases inColor t k <;> rfl
    · exact hx i (by omega)
  refine ⟨?_, ?_, ?_, ?_, ?_, ?_, ?_⟩
  · rw [STEP_main_v4_0]; exact h.tok
  · rw [STEP_main_v4_1, step_main_v4_1, h.ctr]
    funext _
    show BitVec.ofNat 32 k + 1#32 = _
    rw [BitVec.ofNat_add]
  · rw [STEP_main_v4_2, step_main_v4_2, h1, h2, h3, h.row]
    funext _
    show Scalar.select (IntOp.ori (BitVec.ofBool (isBos (t k))) (BitVec.ofBool (isSep (t k)))) 0#32
      (Scalar.select (BitVec.ofBool (isRow (t k))) (rowAt t k + 1#32) (rowAt t k)) = _
    unfold rowAt
    rw [Scan.count]
    cases isBos (t k) <;> cases isSep (t k) <;> cases isRow (t k) <;> rfl
  · rw [STEP_main_v4_3, step_main_v4_3, h1, h2, h3, hc, h.col]
    funext _
    show Scalar.select (IntOp.ori (IntOp.ori (BitVec.ofBool (isBos (t k))) (BitVec.ofBool (isSep (t k)))) (BitVec.ofBool (isRow (t k))))
      0#32 (Scalar.select (BitVec.ofBool (inColor t k)) (colAt t k + 1#32) (colAt t k)) = _
    unfold colAt
    rw [Scan.count]
    cases isBos (t k) <;> cases isSep (t k) <;> cases isRow (t k) <;> cases inColor t k <;> rfl
  · rw [STEP_main_v4_4, step_main_v4_4, h1, h4, h.grid]
    funext _
    show Scalar.select (BitVec.ofBool (isBos (t k))) 1#1
      (Scalar.select (BitVec.ofBool (isEnd (t k))) 0#1 (BitVec.ofBool (inGrid t k))) = _
    unfold inGrid
    rw [switch]
    cases isBos (t k) <;> cases isEnd (t k) <;> rfl
  · rw [STEP_main_v4_5]
    exact up _ _ (rowAt t) h.row h.rows
  · rw [STEP_main_v4_6]
    exact up _ _ (colAt t) h.col h.cols

/-- `k` trips. -/
theorem Inv.steps (h : Inv t 0 V) : ∀ k, k ≤ 8192 → Inv t k (STEP^[k] V)
  | 0, _ => h
  | k + 1, hk => by
    rw [Function.iterate_succ_apply']
    exact (Inv.steps h k (by omega)).step (by omega)

variable (m : (ℓ : Loc nD τ sig) → Buf (Elt F) ℓ) (c : Dev nD)

/-- The tokens of the first row of the reference's ids. -/
def toks (j : ℕ) : BitVec 32 :=
  if h : j < 8192 then (m ((c.tc : Thread nD τ).loc main_arg0) : IVec S4x8192 32) (ix2 0 ⟨j, h⟩) else 0#32

/-- The carried buffers at the loop's entry. -/
theorem entry : Inv (toks m c) 0 (entryContents preI m c) := by
  refine ⟨fun i => ?_, ?_, ?_, ?_, ?_, fun _ h => absurd h (Nat.not_lt_zero _), fun _ h => absurd h (Nat.not_lt_zero _)⟩
  · simp only [entryContents, afterL_cons, afterL_nil]
    after_reads_simp
    unfold toks
    refine Eq.trans ?_ (dif_pos (i 0).isLt).symm
    show shapeCast S8192 (extractStridedSlice S1x8192 ![0, 0] (m ((c.tc : Thread nD τ).loc main_arg0) : IVec S4x8192 32)
      slices_S4x8192_S1x8192_0_0) shapeCasts_S1x8192_S8192 i = _
    pointwise
  all_goals
    simp only [entryContents, afterL_cons, afterL_nil]
    after_reads_simp
    rfl

/-- The contents when the loop is done. -/
abbrev exit : Valuation τ sig (Elt F) := after condOps (atK m 8192 c)

/-- What the carried buffers hold when the loop is done. -/
theorem exit_agree : Agree (exit m c) (STEP^[8192] (entryContents preI m c)) := fun j hj =>
  (cond_keeps _ j hj).trans (atK_agree m c 8192 j hj)

/-- The rows the loop leaves. -/
theorem exit_rows (i : S8192.Idx) : (exit m c (Proc.devRef .tc main_v4_5) : IVec S8192 32) i
    = if inColor (toks m c) (i 0).val then rowAt (toks m c) (i 0).val else 0#32 := by
  rw [exit_agree m c main_v4_5 (by decide)]
  exact ((entry m c).steps 8192 le_rfl).rows i (i 0).isLt

/-- The columns the loop leaves. -/
theorem exit_cols (i : S8192.Idx) : (exit m c (Proc.devRef .tc main_v4_6) : IVec S8192 32) i
    = if inColor (toks m c) (i 0).val then colAt (toks m c) (i 0).val else 0#32 := by
  rw [exit_agree m c main_v4_6 (by decide)]
  exact ((entry m c).steps 8192 le_rfl).cols i (i 0).isLt

end Cert.RefScan
-- ==== Proof.RefRun.lean ====
/- The reference's run: its result buffer ends at the contents after the last operation, its arguments as launched. -/
module

public import proofs.«01_k».proof.Proof.RefFrame
public import proofs.«01_k».proof.Proof.RefScan

@[expose] public section

noncomputable section

namespace Cert.RefRun

open Idealize.ShloMosaic Idealize.SL.Sem Idealize.ShloMosaic.StableHlo
open Cert.ReferenceIdeal Cert.ReferenceIdeal.Gen Cert.ReferenceIdeal.Value Cert.RefScan

variable {F : FTy → Type} [FloatOps F]
variable (m : (ℓ : Loc nD τ sig) → Buf (Elt F) ℓ) (ρ : Dev nD → PrngReg)

/-- Every execution of the reference ends with the result at its contents after the last operation and the arguments
    as launched. -/
theorem result : θ_run (defs (F := F)) (onTc (τ := τ) (main (F := F))) ⟨m, fun _ => 0, ρ⟩ (fun r => ∀ c : Dev nD,
      r.2.mem ((c.tc : Thread nD τ).loc main_v57) = afterL postI (exit m c) (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := F)) _ _).mono (fun r h => ?_) (run_fold m ρ)
  have k : ∀ (c : Dev nD) (a : Ref sig .tc), a ∈ RefFrame.argRefs → (Proc.devRef .tc a : DevRef τ sig).isScoped = false →
      r.2.mem ((c.tc : Thread nD τ).loc a) = m ((c.tc : Thread nD τ).loc a) :=
    fun c a ha hs => (h c a hs).trans (RefFrame.final_keep m a ha c)
  exact fun c =>
    ⟨h c main_v57 rfl, k c main_arg0 (by decide) rfl, k c main_arg1 (by decide) rfl, k c main_arg2 (by decide) rfl,
      k c main_arg3 (by decide) rfl, k c main_arg4 (by decide) rfl, k c main_arg5 (by decide) rfl,
      k c main_arg6 (by decide) rfl, k c main_arg7 (by decide) rfl⟩

end Cert.RefRun
-- ==== Proof.LayerNorm.lean ====
/- Layer normalisation of rows of extended reals: a row's centring, and the normalised row. -/
module

public import Idealize.ShloMosaic.PureOps
public import Idealize.ShloMosaic.PureOps.Ideal
public import Idealize.ShloMosaic.Lib.Pointwise

@[expose] public section

noncomputable section

namespace Cert.LayerNorm

open Idealize.ShloMosaic

/-- A row of the model's width. -/
abbrev Row := Fin 768 → EReal

/-- One over the width. -/
abbrev invD : EReal := ((1 / 768 : ℝ) : EReal)

/-- The row less its mean. -/
def cen (x : Row) : Row := fun d => x d - (∑ k, x k) * invD

/-- Some entry of the row is infinite. -/
def HasInf (x : Row) : Prop := ∃ d, x d = ⊤ ∨ x d = ⊥

/-- The two rows are one, or both have an infinite entry. -/
def Same (u v : Row) : Prop := u = v ∨ HasInf u ∧ HasInf v

/-- A row is the same as itself. -/
theorem Same.refl (u : Row) : Same u u := .inl rfl

/-- `Same` is transitive. -/
theorem Same.trans {u v w : Row} (h : Same u v) (h' : Same v w) : Same u w := by
  rcases h with rfl | ⟨h1, h2⟩
  · exact h'
  · rcases h' with rfl | ⟨-, h4⟩
    · exact .inr ⟨h1, h2⟩
    · exact .inr ⟨h1, h4⟩

/-- An infinite number plus anything is infinite. -/
theorem inf_add {a : EReal} (h : a = ⊤ ∨ a = ⊥) (b : EReal) : a + b = ⊤ ∨ a + b = ⊥ := by
  rcases h with rfl | rfl
  · induction b <;> simp
  · simp

/-- Adding any row on the right keeps an infinite entry. -/
theorem HasInf.add_left {x : Row} (h : HasInf x) (y : Row) : HasInf (x + y) := by
  obtain ⟨d, hd⟩ := h
  exact ⟨d, inf_add hd (y d)⟩

/-- Adding any row on the left keeps an infinite entry. -/
theorem HasInf.add_right {y : Row} (h : HasInf y) (x : Row) : HasInf (x + y) := by
  rw [add_comm]; exact h.add_left x

/-- An infinite entry stays infinite when the mean is taken off. -/
theorem HasInf.cen {x : Row} (h : HasInf x) : HasInf (cen x) := by
  obtain ⟨d, hd⟩ := h
  refine ⟨d, ?_⟩
  unfold LayerNorm.cen
  rw [sub_eq_add_neg]
  exact inf_add hd _

/-- `Same` rows stay `Same` when one row is added to both. -/
theorem Same.add_right {u v : Row} (h : Same u v) (w : Row) : Same (u + w) (v + w) := by
  rcases h with rfl | ⟨h1, h2⟩
  · exact .refl _
  · exact .inr ⟨h1.add_left w, h2.add_left w⟩

/-- A row with no infinite entry is a row of reals. -/
theorem real_of_not_inf {x : Row} (h : ¬ HasInf x) : ∃ r : Fin 768 → ℝ, x = fun d => (r d : EReal) := by
  refine ⟨fun d => (x d).toReal, funext fun d => ?_⟩
  rw [EReal.coe_toReal]
  · exact fun h' => h ⟨d, .inl h'⟩
  · exact fun h' => h ⟨d, .inr h'⟩

/-- The sum of the reals of a row. -/
theorem sum_coe (r : Fin 768 → ℝ) : (∑ k, (r k : EReal)) = ((∑ k, r k : ℝ) : EReal) :=
  (map_sum (⟨⟨(fun r : ℝ => (r : EReal)), EReal.coe_zero⟩, EReal.coe_add⟩ : ℝ →+ EReal) r Finset.univ).symm

/-- Centring is additive, up to infinite entries. -/
theorem cen_add (x y : Row) : Same (cen x + cen y) (cen (x + y)) := by
  by_cases hx : HasInf x
  · exact .inr ⟨hx.cen.add_left _, (hx.add_left y).cen⟩
  by_cases hy : HasInf y
  · exact .inr ⟨hy.cen.add_right _, (hy.add_right x).cen⟩
  obtain ⟨r, rfl⟩ := real_of_not_inf hx
  obtain ⟨s, rfl⟩ := real_of_not_inf hy
  refine .inl (funext fun d => ?_)
  simp only [cen, Pi.add_apply, ← EReal.coe_add, sum_coe]
  simp only [← EReal.coe_mul, ← EReal.coe_sub, ← EReal.coe_add]
  rw [Finset.sum_add_distrib]
  congr 1
  ring

/-- The centring of the zero row. -/
theorem cen_zero : cen 0 = 0 := by
  funext d
  simp [cen]

/-- The sum of the squares of a row with an infinite entry. -/
theorem sumSq_of_inf {u : Row} (h : HasInf u) : (∑ k, u k * u k) = ⊤ := by
  have hsq : ∀ a : EReal, 0 ≤ a * a := fun a => by
    rcases le_total 0 a with h | h
    · exact mul_nonneg h h
    · exact EReal.mul_nonneg_iff.2 (.inr ⟨h, h⟩)
  obtain ⟨d, hd⟩ := h
  have hd' : u d * u d = ⊤ := by rcases hd with hd | hd <;> rw [hd] <;> rfl
  exact top_le_iff.1 (hd' ▸ Finset.single_le_sum (f := fun k => u k * u k) (fun k _ => hsq (u k)) (Finset.mem_univ d))

/-- The normalised rows: the one by a reciprocal square root, the other by a division by a square root. -/
theorem norm_eq {u v : Row} (h : Same u v) (e : ℝ) (he : 0 < e) (d : Fin 768) :
    u d * Ideal.rsqrt ((∑ k, u k * u k) * invD + (e : EReal))
      = Ideal.div (v d) (Ideal.sqrt ((∑ k, v k * v k) * invD + (e : EReal))) := by
  have ht : (⊤ : EReal) * invD + (e : EReal) = ⊤ := by
    rw [EReal.top_mul_coe_of_pos (by norm_num)]; rfl
  have inf : ∀ {w : Row}, HasInf w →
      w d * Ideal.rsqrt ((∑ k, w k * w k) * invD + (e : EReal)) = 0
        ∧ Ideal.div (w d) (Ideal.sqrt ((∑ k, w k * w k) * invD + (e : EReal))) = 0 := fun {w} hw => by
    rw [sumSq_of_inf hw, ht]
    refine ⟨by simp, ?_⟩
    rw [Ideal.sqrt_top]
    simp [Ideal.div]
  rcases h with rfl | ⟨h1, h2⟩
  swap
  · rw [(inf h1).1, (inf h2).2]
  by_cases hu : HasInf u
  · rw [(inf hu).1, (inf hu).2]
  obtain ⟨r, rfl⟩ := real_of_not_inf hu
  simp only [← EReal.coe_mul, sum_coe]
  simp only [← EReal.coe_mul, ← EReal.coe_add]
  have hp : 0 < (∑ k, r k * r k) * (1 / 768) + e := by
    have : 0 ≤ ∑ k, r k * r k := Finset.sum_nonneg fun k _ => mul_self_nonneg (r k)
    positivity
  have hs := Real.sqrt_pos.2 hp
  rw [Ideal.rsqrt_coe, Ideal.sqrt_coe, if_neg hp.not_gt, if_neg hp.ne', if_neg hp.not_gt, Ideal.div_coe hs.ne']
  simp

end Cert.LayerNorm
-- ==== Proof.Spec.lean ====
/- The embedding of one token as a row of 768 entries, and its layer normalisation. -/
module

public import proofs.«01_k».proof.Proof.Scan
public import proofs.«01_k».proof.Proof.LayerNorm

@[expose] public section

noncomputable section

namespace Cert.Spec

open Idealize.ShloMosaic Cert.Scan Cert.LayerNorm

/-- A matrix of `n` rows and `k` columns. -/
abbrev Mat (n k : ℕ) := (⟨2, ![n, k]⟩ : Shape).Idx → EReal
/-- The ids. -/
abbrev Ids := (⟨2, ![4, 8192]⟩ : Shape).Idx → BitVec 32

/-- The tokens of the first row of the ids. -/
def first (ids : Ids) (j : ℕ) : BitVec 32 := if h : j < 8192 then ids (ix2 0 ⟨j, h⟩) else 0#32

/-- The grid row of token `t` of batch row `b`: that of the first batch row's cell, 0 in the other batch rows. -/
def rowNo (ids : Ids) (b : Fin 4) (t : Fin 8192) : Fin 30 :=
  if b.val = 0 then ⟨(rowOut (first ids) t.val).toNat, held29_lt _⟩ else 0

/-- The grid column likewise. -/
def colNo (ids : Ids) (b : Fin 4) (t : Fin 8192) : Fin 30 :=
  if b.val = 0 then ⟨(colOut (first ids) t.val).toNat, held29_lt _⟩ else 0

/-- A token's row of the token table. -/
def tokRow (emb : Mat 15 768) (w : BitVec 32) : Row :=
  fun d => emb (ix2 ⟨min w.toNat 14, Nat.lt_succ_of_le (min_le_right _ _)⟩ d)

/-- The projection of a grid row's embedding: the left half of the projection matrix. -/
def rowProj (re : Mat 30 384) (W : Mat 768 768) (r : Fin 30) : Row :=
  fun d => ∑ k : Fin 384, re (ix2 r k) * W (ix2 d ⟨k.val, by omega⟩)

/-- The projection of a grid column's embedding: the right half of the projection matrix. -/
def colProj (ce : Mat 30 384) (W : Mat 768 768) (c : Fin 30) : Row :=
  fun d => ∑ k : Fin 384, ce (ix2 c k) * W (ix2 d ⟨384 + k.val, by omega⟩)

/-- The spatial part of a token: zero unless the token is a colour. -/
def spatial (ids : Ids) (re ce : Mat 30 384) (W : Mat 768 768) (b : Fin 4) (t : Fin 8192) : Row :=
  if isCol (ids (ix2 b t)) then rowProj re W (rowNo ids b t) + colProj ce W (colNo ids b t) else 0

/-- The token's whole embedding. -/
def embed (ids : Ids) (emb : Mat 15 768) (pos : Mat 8192 768) (re ce : Mat 30 384) (W : Mat 768 768)
    (b : Fin 4) (t : Fin 8192) : Row :=
  tokRow emb (ids (ix2 b t)) + (fun d => pos (ix2 t d)) + spatial ids re ce W b t

/-- The constant added to the variance, as a real. -/
def eps : ℝ := 10995116 / 2 ^ 40

/-- The small constant under the root is positive. -/
theorem eps_pos : 0 < eps := by unfold eps; norm_num

/-- The word the programs write for that constant. -/
theorem ofBits_eps : Ideal.ofBits .f32 0x3727C5AC#32 = (eps : EReal) := by
  unfold eps
  simp [Ideal.ofBits, Ideal.ieee, -EReal.coe_mul]
  norm_num

/-- The normalised row, scaled and shifted. -/
def normed (x : Row) (gamma beta : (⟨1, ![768]⟩ : Shape).Idx → EReal) : Row := fun d =>
  Ideal.div (cen x d) (Ideal.sqrt ((∑ k, cen x k * cen x k) * invD + eps)) * gamma (ix1 d) + beta (ix1 d)

end Cert.Spec
-- ==== Proof.Take.lean ====
/- Rows taken out of a table at a box of index words that are in range. -/
module

public import proofs.«01_k».proof.Proof.Gen.ReferenceIdeal
public import Idealize.ShloMosaic.Lib.Pointwise
public import Idealize.ShloMosaic.Lib.ReduceAll
public import Idealize.ShloMosaic.Lib.Routing.Ops
public import Idealize.ShloMosaic.Lib.Routing.OpsPair
public import Idealize.ShloMosaic.Lib.Routing.OpsSet

@[expose] public section

noncomputable section

namespace Cert.Take

open Idealize.ShloMosaic

/-- The dimension numbers of rows of a table `[N, C]` taken at a box `[A, B]` of row numbers. -/
abbrev boxDims (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Rows taken at a box of row numbers: entry `(a, b, c)` is entry `c` of the row that the word at `(a, b)` names. -/
theorem gather_box {α : Type} {N C A B : ℕ}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (c : Fin C)
    (r : Fin N) (hr : (idx (ix3 a b (0 : Fin 1))).toInt = r.val) :
    Host.gather (boxDims N C A B wf) x idx (ix3 a b c) = x (ix2 r c) := by
  unfold Host.gather
  refine congrArg x (funext fun d => Fin.ext ?_)
  show (boxDims N C A B wf).start (ix3 a b c) idx d + (boxDims N C A B wf).batchCoord (ix3 a b c) d
    + (boxDims N C A B wf).offCoord (ix3 a b c) d = _
  rw [GatherDims.batchCoord_eq_zero _ _ _ (List.not_mem_nil), Nat.add_zero]
  obtain rfl | rfl : d = 0 ∨ d = 1 := by
    match d with
    | ⟨0, _⟩ => exact Or.inl rfl
    | ⟨1, _⟩ => exact Or.inr rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (boxDims N C A B wf).startIndexMap from List.mem_singleton.mpr rfl)]
    have hsi : (boxDims N C A B wf).siIdx (ix3 a b c) ⟨List.idxOf (0 : Fin 2) (boxDims N C A B wf).startIndexMap,
        List.idxOf_lt_length_iff.2 (List.mem_singleton.mpr rfl)⟩ = ix3 a b (0 : Fin 1) := by
      funext e
      refine Fin.ext ?_
      match e with
      | ⟨0, _⟩ => rfl
      | ⟨1, _⟩ => rfl
      | ⟨2, _⟩ => rfl
    have := r.isLt
    rw [hsi, hr]
    show min ((r.val : ℤ).toNat) (N - 1) = r.val
    omega
  · unfold GatherDims.start
    rw [dif_neg (show (1 : Fin 2) ∉ (boxDims N C A B wf).startIndexMap from
      fun h => absurd (congrArg Fin.val (List.mem_singleton.1 h)) Nat.one_ne_zero), Nat.zero_add]
    rfl

/-- A row number below `n` passes the test that the taken row's number lies from 0 to `n - 1`. -/
theorem in_range {n : ℕ} (hn : n < 2 ^ 31) (w : BitVec 32) (h : w.toNat < n) :
    Scalar.select (IntOp.cmpi .slt w 0#32) (IntOp.addi w (BitVec.ofNat 32 n)) w = w
    ∧ IntOp.andi (IntOp.cmpi .sge w 0#32) (IntOp.cmpi .sle w (BitVec.ofNat 32 (n - 1))) = 1#1
    ∧ w.toInt = w.toNat := by
  have hw : w.toInt = w.toNat := by rw [BitVec.toInt_eq_toNat_cond, if_pos (by omega)]
  have h0 : (0#32 : BitVec 32).toInt = 0 := rfl
  have hn1 : (BitVec.ofNat 32 (n - 1)).toInt = ((n - 1 : ℕ) : ℤ) := StableHlo.Predicate.toInt_ofNat_small _ (by omega)
  have e1 : w.slt 0#32 = false := by
    rw [BitVec.slt, hw, h0, decide_eq_false_iff_not]; omega
  have e2 : (0#32).sle w = true := by
    rw [BitVec.sle, hw, h0, decide_eq_true_eq]; omega
  have e3 : w.sle (BitVec.ofNat 32 (n - 1)) = true := by
    rw [BitVec.sle, hw, hn1, decide_eq_true_eq]; omega
  refine ⟨?_, ?_, hw⟩
  · show Scalar.select (BitVec.ofBool (w.slt 0#32)) _ w = w
    rw [e1]; rfl
  · show IntOp.andi (BitVec.ofBool ((0#32).sle w)) (BitVec.ofBool (w.sle (BitVec.ofNat 32 (n - 1)))) = 1#1
    rw [e2, e3]; rfl

/-- Setting row 0 of a matrix of `A` rows: row 0 is the new row, the other rows are as before. -/
theorem scatter_row0 {α : Type} {A N : ℕ} (hA : 0 < A)
    (wf : ScatterDims.WF ⟨2, ![A, N]⟩ ⟨1, ![1]⟩ ⟨1, ![N]⟩ [0] [0] [0] 0)
    (x : (⟨2, ![A, N]⟩ : Shape).Idx → α) (idx : IVec ⟨1, ![1]⟩ 32) (hidx : ∀ i, (idx i).toInt = 0)
    (u : (⟨1, ![N]⟩ : Shape).Idx → α) (a : Fin A) (n : Fin N) :
    Host.scatter (⟨[0], [0], [0], 0, wf⟩ : ScatterDims ⟨2, ![A, N]⟩ ⟨1, ![1]⟩ ⟨1, ![N]⟩) (fun _ b => b) x idx u (ix2 a n)
      = if a.val = 0 then u (ix1 n) else x (ix2 a n) := by
  have land : ∀ k : (⟨1, ![N]⟩ : Shape).Idx,
      (⟨[0], [0], [0], 0, wf⟩ : ScatterDims ⟨2, ![A, N]⟩ ⟨1, ![1]⟩ ⟨1, ![N]⟩).resultIdx? k idx = some (ix2 a n)
        ↔ a.val = 0 ∧ (k 0).val = n.val := fun k => by
    rw [Routing.resultIdx?_eq_some]
    have s0 : (⟨[0], [0], [0], 0, wf⟩ : ScatterDims ⟨2, ![A, N]⟩ ⟨1, ![1]⟩ ⟨1, ![N]⟩).start k idx 0 = 0 := hidx _
    have s1 : (⟨[0], [0], [0], 0, wf⟩ : ScatterDims ⟨2, ![A, N]⟩ ⟨1, ![1]⟩ ⟨1, ![N]⟩).start k idx 1 = 0 := rfl
    have w0 : (⟨[0], [0], [0], 0, wf⟩ : ScatterDims ⟨2, ![A, N]⟩ ⟨1, ![1]⟩ ⟨1, ![N]⟩).window k 0 = 0 := rfl
    have w1 : (⟨[0], [0], [0], 0, wf⟩ : ScatterDims ⟨2, ![A, N]⟩ ⟨1, ![1]⟩ ⟨1, ![N]⟩).window k 1 = (k 0).val := rfl
    constructor
    · intro h
      have h0 := h 0
      have h1 := h 1
      rw [s0, w0] at h0
      rw [s1, w1] at h1
      have h0' : (0 : ℤ) + ((0 : ℕ) : ℤ) = (a.val : ℤ) := h0
      have h1' : (0 : ℤ) + ((k 0).val : ℤ) = (n.val : ℤ) := h1
      omega
    · rintro ⟨e0, e1⟩ d
      match d with
      | ⟨0, _⟩ =>
        refine (congrArg₂ (fun (p : ℤ) (q : ℕ) => p + (q : ℤ)) s0 w0).trans ?_
        show (0 : ℤ) + ((0 : ℕ) : ℤ) = (a.val : ℤ)
        omega
      | ⟨1, _⟩ =>
        refine (congrArg₂ (fun (p : ℤ) (q : ℕ) => p + (q : ℤ)) s1 w1).trans ?_
        show (0 : ℤ) + ((k 0).val : ℤ) = (n.val : ℤ)
        omega
  split
  · rename_i h
    refine Routing.scatter_set_hit _ x idx u _ _ (fun k hk => ?_) (ix1 n) ((land _).2 ⟨h, rfl⟩)
    refine congrArg u (funext fun d => ?_)
    match d with
    | ⟨0, _⟩ => exact Fin.ext ((land k).1 hk).2
  · rename_i h
    exact Routing.scatter_set_miss _ x idx u _ (fun k hk => h ((land k).1 hk).1)

end Cert.Take
-- ==== Proof.RefNorm.lean ====
/- The reference's layer normalisation read at an index. -/
module

public import proofs.«01_k».proof.Proof.RefScan
public import proofs.«01_k».proof.Proof.Spec
public import proofs.«01_k».proof.Proof.Take

@[expose] public section

noncomputable section

namespace Cert.RefNorm

open Idealize.ShloMosaic Idealize.ShloMosaic.StableHlo Cert.ReferenceIdeal Cert.ReferenceIdeal.Gen Cert.ReferenceIdeal.Value
open Cert.LayerNorm Cert.Spec

/-- The word of 768. -/
theorem ofBits_768 : Ideal.ofBits .f32 0x44400000#32 = ((768 : ℝ) : EReal) := by
  simp [Ideal.ofBits, Ideal.ieee, -EReal.coe_mul]
  norm_num

/-- The mean of each row, with the row's axis kept. -/
def mean (x : FVec Ideal S4x8192x768 .f32) : FVec Ideal S4x8192x1 .f32 :=
  Host.divf (broadcastInDim S4x8192x1 ![0, 1] bcast_S4x8192_S4x8192x1_0_1
      (Host.reduceAdd x (constant S_ .f32 0x00000000#32) reducesTo_S4x8192x768_S4x8192_d2 h_S_))
    (broadcastInDim S4x8192x1 ![] bcast_S_S4x8192x1 (constant S_ .f32 0x44400000#32))

/-- A value per token as a value per entry. -/
abbrev wide {α : Type} (x : S4x8192x1.Idx → α) : S4x8192x768.Idx → α :=
  broadcastInDim S4x8192x768 ![0, 1, 2] bcast_S4x8192x1_S4x8192x768_0_1_2 x

/-- A value per entry of a row as a value per entry. -/
abbrev tall {α : Type} (x : S768.Idx → α) : S4x8192x768.Idx → α :=
  broadcastInDim S4x8192x768 ![0, 1, 2] bcast_S1x1x768_S4x8192x768_0_1_2
    (broadcastInDim S1x1x768 ![2] bcast_S768_S1x1x768_2 x)

/-- The reference's layer normalisation. -/
def layerNorm (x : FVec Ideal S4x8192x768 .f32) (gamma beta : FVec Ideal S768 .f32) : FVec Ideal S4x8192x768 .f32 :=
  addf (mulf (Host.divf (subf x (wide (mean x)))
    (wide (Host.sqrt (addf (mean (mulf (subf x (wide (mean x))) (subf x (wide (mean x)))))
      (broadcastInDim S4x8192x1 ![] bcast_S_S4x8192x1 (constant S_ .f32 0x3727C5AC#32))))))
    (tall gamma)) (tall beta)

/-- The mean of a row is its sum times the reciprocal of 768. -/
theorem mean_apply (x : FVec Ideal S4x8192x768 .f32) (b : Fin 4) (t : Fin 8192) (o : Fin 1) :
    mean x (ix3 b t o) = (∑ k : Fin 768, x (ix3 b t k)) * invD := by
  have e : mean x (ix3 b t o) = Ideal.div (Host.reduceAdd x (constant S_ .f32 0x00000000#32)
      reducesTo_S4x8192x768_S4x8192_d2 h_S_ (ix2 b t)) (Ideal.ofBits .f32 0x44400000#32) := by
    unfold mean
    pointwise
  rw [e, ofBits_768, Ideal.div_coe (by norm_num)]
  refine congrArg (· * invD) ?_
  rw [Host.reduceAdd_apply, Ideal.hostReduceAdd_def, Ideal.hostReduceAdd_r3_a2]
  show Ideal.ofBits .f32 0x00000000#32 + _ = _
  rw [Ideal.ofBits_zero_f32, zero_add]
  rfl

/-- A value per token, read at an entry. -/
theorem wide_apply {α : Type} (x : S4x8192x1.Idx → α) (b : Fin 4) (t : Fin 8192) (d : Fin 768) :
    wide x (ix3 b t d) = x (ix3 b t 0) := by
  pointwise

/-- A value per entry of a row, read at an entry. -/
theorem tall_apply {α : Type} (x : S768.Idx → α) (b : Fin 4) (t : Fin 8192) (d : Fin 768) :
    tall x (ix3 b t d) = x (ix1 d) := by
  pointwise

/-- The reference's layer normalisation, row by row. -/
theorem layerNorm_apply (x : FVec Ideal S4x8192x768 .f32) (gamma beta : FVec Ideal S768 .f32)
    (b : Fin 4) (t : Fin 8192) (d : Fin 768) :
    layerNorm x gamma beta (ix3 b t d) = normed (fun k => x (ix3 b t k)) gamma beta d := by
  have hc : ∀ k, subf x (wide (mean x)) (ix3 b t k) = cen (fun k => x (ix3 b t k)) k := fun k => by
    show x (ix3 b t k) - wide (mean x) (ix3 b t k) = _
    rw [wide_apply, mean_apply]
    rfl
  show Ideal.div (subf x (wide (mean x)) (ix3 b t d)) (wide (Host.sqrt (addf (mean _) _)) (ix3 b t d))
    * tall gamma (ix3 b t d) + tall beta (ix3 b t d) = _
  rw [tall_apply, tall_apply, wide_apply, hc]
  show Ideal.div _ (Ideal.sqrt (mean _ (ix3 b t 0) + Ideal.ofBits .f32 0x3727C5AC#32)) * _ + _ = _
  rw [mean_apply, ofBits_eps]
  unfold normed
  refine congrArg (fun z => Ideal.div _ (Ideal.sqrt (z * invD + (eps : EReal))) * gamma (ix1 d) + beta (ix1 d)) ?_
  refine Finset.sum_congr rfl fun k _ => ?_
  show subf x (wide (mean x)) (ix3 b t k) * subf x (wide (mean x)) (ix3 b t k) = _
  rw [hc]

end Cert.RefNorm
-- ==== Proof.RefTake.lean ====
/- The rows the reference takes out of its tables. -/
module

public import proofs.«01_k».proof.Proof.RefScan
public import proofs.«01_k».proof.Proof.Spec
public import proofs.«01_k».proof.Proof.Take

@[expose] public section

set_option maxRecDepth 20000

noncomputable section

namespace Cert.RefTake

open Idealize.ShloMosaic Idealize.ShloMosaic.StableHlo Cert.ReferenceIdeal Cert.ReferenceIdeal.Gen Cert.ReferenceIdeal.Value
open Cert.Take

variable {F : FTy → Type} [FloatOps F]

/-- The row numbers, those below zero moved up by the table's length. -/
abbrev wrapped (n : BitVec 32) (v : IVec S4x8192 32) : IVec S4x8192x1 32 :=
  broadcastInDim S4x8192x1 ![0, 1] bcast_S4x8192_S4x8192x1_0_1
    (select (cmpi .slt v (broadcastInDim S4x8192 ![] bcast_S_S4x8192 (constantI S_ 32 0#32)))
      (addi v (broadcastInDim S4x8192 ![] bcast_S_S4x8192 (constantI S_ 32 n))) v)

/-- Which row numbers lie from 0 to `n`. -/
abbrev inside (n : BitVec 32) (v : IVec S4x8192x1 32) : IVec S4x8192 1 :=
  Host.reduce IntOp.andi (andi
      (cmpi .sge v (broadcastInDim S4x8192x1 ![] bcast_S_S4x8192x1 (constantI S_ 32 0#32)))
      (cmpi .sle v (broadcastInDim S4x8192x1 ![0, 1, 2] bcast_S1x1x1_S4x8192x1_0_1_2
        (broadcastInDim S1x1x1 ![2] bcast_S1_S1x1x1_2 (constantI S1 32 n)))))
    (constantI S_ 1 1#1) reducesTo_S4x8192x1_S4x8192_d2 h_S_

/-- Rows taken at a box of row numbers that are in range. -/
theorem take_box {N C : ℕ} (hN : N < 2 ^ 31)
    (wf : GatherDims.WF ⟨2, ![N, C]⟩ ⟨3, ![4, 8192, 1]⟩ ⟨3, ![4, 8192, C]⟩ [2] [0] [] [0] [] 2 ![1, C])
    (D : GatherDims ⟨2, ![N, C]⟩ ⟨3, ![4, 8192, 1]⟩ ⟨3, ![4, 8192, C]⟩) (hD : D = boxDims N C 4 8192 wf)
    (n n' : BitVec 32) (hn : n = BitVec.ofNat 32 N) (hn' : n' = BitVec.ofNat 32 (N - 1))
    (hb : S4x8192.BroadcastsInDim ⟨3, ![4, 8192, C]⟩ ![0, 1])
    (x : (⟨2, ![N, C]⟩ : Shape).Idx → F .f32) (v : IVec S4x8192 32) (z : (⟨3, ![4, 8192, C]⟩ : Shape).Idx → F .f32)
    (hv : ∀ i, (v i).toNat < N) (b : Fin 4) (t : Fin 8192) (d : Fin C) :
    select (broadcastInDim ⟨3, ![4, 8192, C]⟩ ![0, 1] hb (inside n' (wrapped n v)))
      (Host.gather D x (wrapped n v)) z (ix3 b t d)
      = x (ix2 ⟨(v (ix2 b t)).toNat, hv _⟩ d) := by
  subst hD hn hn'
  have hw : ∀ i : S4x8192x1.Idx, wrapped (BitVec.ofNat 32 N) v i = v (ix2 (i 0) (i 1)) := fun i => by
    refine (Pointwise.broadcastInDim_apply ..).trans ?_
    refine ((in_range hN _ (hv _)).1).trans (congrArg v (funext fun a => ?_))
    match a with
    | ⟨0, _⟩ => rfl
    | ⟨1, _⟩ => rfl
  have hi : inside (BitVec.ofNat 32 (N - 1)) (wrapped (BitVec.ofNat 32 N) v) = fun _ => 1#1 := funext fun j =>
    Host.reduce_andi_one _ _ _ _ _ rfl fun i => by
      show IntOp.andi (IntOp.cmpi .sge (wrapped (BitVec.ofNat 32 N) v i) 0#32)
        (IntOp.cmpi .sle (wrapped (BitVec.ofNat 32 N) v i) (BitVec.ofNat 32 (N - 1))) = 1#1
      rw [hw]
      exact (in_range hN _ (hv _)).2.1
  rw [hi]
  exact gather_box wf x _ b t d ⟨(v (ix2 b t)).toNat, hv _⟩ (by
    rw [hw]; exact (in_range hN _ (hv _)).2.2)

/-- The numbers 0 to 8191, those below zero moved up by 8192. -/
abbrev places : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Rows taken at the numbers 0 to 8191 in turn. -/
theorem take_list (x z : FVec F S8192x768 .f32) (t : Fin 8192) (d : Fin 768) :
    select (broadcastInDim S8192x768 ![0] bcast_S8192_S8192x768_0 (Host.reduce IntOp.andi (andi
        (cmpi .sge places (broadcastInDim S8192x1 ![] bcast_S_S8192x1 (constantI S_ 32 0#32)))
        (cmpi .sle places (broadcastInDim S8192x1 ![0, 1] bcast_S1x1_S8192x1_0_1
          (broadcastInDim S1x1 ![1] bcast_S1_S1x1_1 (constantI S1 32 8191#32)))))
      (constantI S_ 1 1#1) reducesTo_S8192x1_S8192_d1 h_S_))
      (Host.gather gather_S8192x768_S8192x1_S8192x768_1_0_n_n_0_1_1768 x places) z (ix2 t d) = x (ix2 t d) := by
  have hn : ∀ k : Fin 8192, (BitVec.ofNat 32 k.val).toNat < 8192 := fun k => by
    rw [BitVec.toNat_ofNat, Nat.mod_eq_of_lt (k.isLt.trans (by norm_num))]
    exact k.isLt
  have hw : ∀ i : S8192x1.Idx, places i = BitVec.ofNat 32 (i 0).val := fun i =>
    (Pointwise.broadcastInDim_apply ..).trans ((in_range (n := 8192) (by norm_num) _ (hn (i 0))).1)
  have hi : Host.reduce IntOp.andi (andi
      (cmpi .sge places (broadcastInDim S8192x1 ![] bcast_S_S8192x1 (constantI S_ 32 0#32)))
      (cmpi .sle places (broadcastInDim S8192x1 ![0, 1] bcast_S1x1_S8192x1_0_1
        (broadcastInDim S1x1 ![1] bcast_S1_S1x1_1 (constantI S1 32 8191#32)))))
      (constantI S_ 1 1#1) reducesTo_S8192x1_S8192_d1 h_S_ = fun _ => 1#1 := funext fun j =>
    Host.reduce_andi_one _ _ _ _ _ rfl fun i => by
      show IntOp.andi (IntOp.cmpi .sge (places i) 0#32) (IntOp.cmpi .sle (places i) 8191#32) = 1#1
      rw [hw]
      exact (in_range (n := 8192) (by norm_num) _ (hn (i 0))).2.1
  rw [hi]
  exact Routing.gather_row gather_S8192x768_S8192x1_S8192x768_1_0_n_n_0_1_1768 rfl rfl rfl rfl rfl x places t d t (hw _) (by norm_num)

variable (V : Valuation τ sig (Elt F))

/-- The token table's rows. -/
theorem take_tok (hv : ∀ i, ((V (Proc.devRef .tc main_arg0) : IVec S4x8192 32) i).toNat < 15) (b : Fin 4) (t : Fin 8192) (d : Fin 768) :
    (after hostOps0_6 V (Proc.devRef .tc main_v13) : FVec F S4x8192x768 .f32) (ix3 b t d)
      = (V (Proc.devRef .tc main_arg1) : FVec F S15x768 .f32)
        (ix2 ⟨((V (Proc.devRef .tc main_arg0) : IVec S4x8192 32) (ix2 b t)).toNat, hv _⟩ d) := by
  refine Eq.trans (congrFun ?_ _) (take_box (F := F) (N := 15) (C := 768) (by norm_num) gather_S15x768_S4x8192x1_S4x8192x768_2_0_n_n_0_2_1768_wf gather_S15x768_S4x8192x1_S4x8192x768_2_0_n_n_0_2_1768 rfl 15#32 14#32 rfl rfl
    bcast_S4x8192_S4x8192x768_0_1 (V (Proc.devRef .tc main_arg1)) (V (Proc.devRef .tc main_arg0))
    (broadcastInDim S4x8192x768 ![] bcast_S_S4x8192x768 (constant S_ .f32 0x7FC00000#32)) hv b t d)
  after_results_simp
  simp only [TRef.ofBuf_toBuf]
  congr 1

/-- The row embeddings. -/
theorem take_row (hv : ∀ i, ((V (Proc.devRef .tc main_v9) : IVec S4x8192 32) i).toNat < 30) (b : Fin 4) (t : Fin 8192) (d : Fin 384) :
    (after hostOps0_10 V (Proc.devRef .tc main_v17) : FVec F S4x8192x384 .f32) (ix3 b t d)
      = (V (Proc.devRef .tc main_arg3) : FVec F S30x384 .f32)
        (ix2 ⟨((V (Proc.devRef .tc main_v9) : IVec S4x8192 32) (ix2 b t)).toNat, hv _⟩ d) := by
  refine Eq.trans (congrFun ?_ _) (take_box (F := F) (N := 30) (C := 384) (by norm_num) gather_S30x384_S4x8192x1_S4x8192x384_2_0_n_n_0_2_1384_wf gather_S30x384_S4x8192x1_S4x8192x384_2_0_n_n_0_2_1384 rfl 30#32 29#32 rfl rfl
    bcast_S4x8192_S4x8192x384_0_1 (V (Proc.devRef .tc main_arg3)) (V (Proc.devRef .tc main_v9))
    (broadcastInDim S4x8192x384 ![] bcast_S_S4x8192x384 (constant S_ .f32 0x7FC00000#32)) hv b t d)
  after_results_simp
  simp only [TRef.ofBuf_toBuf]
  congr 1

/-- The column embeddings. -/
theorem take_col (hv : ∀ i, ((V (Proc.devRef .tc main_v12) : IVec S4x8192 32) i).toNat < 30) (b : Fin 4) (t : Fin 8192) (d : Fin 384) :
    (after hostOps0_11 V (Proc.devRef .tc main_v18) : FVec F S4x8192x384 .f32) (ix3 b t d)
      = (V (Proc.devRef .tc main_arg4) : FVec F S30x384 .f32)
        (ix2 ⟨((V (Proc.devRef .tc main_v12) : IVec S4x8192 32) (ix2 b t)).toNat, hv _⟩ d) := by
  refine Eq.trans (congrFun ?_ _) (take_box (F := F) (N := 30) (C := 384) (by norm_num) gather_S30x384_S4x8192x1_S4x8192x384_2_0_n_n_0_2_1384_wf gather_S30x384_S4x8192x1_S4x8192x384_2_0_n_n_0_2_1384 rfl 30#32 29#32 rfl rfl
    bcast_S4x8192_S4x8192x384_0_1 (V (Proc.devRef .tc main_arg4)) (V (Proc.devRef .tc main_v12))
    (broadcastInDim S4x8192x384 ![] bcast_S_S4x8192x384 (constant S_ .f32 0x7FC00000#32)) hv b t d)
  after_results_simp
  simp only [TRef.ofBuf_toBuf]
  congr 1

/-- The rows taken at the numbers 0 to 8191 in turn are the table's rows in turn. -/
theorem take_pos (h : (V (Proc.devRef .tc main_v14) : IVec S8192 32) = iotaInDim S8192 32 0) (t : Fin 8192) (d : Fin 768) :
    (after hostOps0_8 V (Proc.devRef .tc main_v15) : FVec F S8192x768 .f32) (ix2 t d)
      = (V (Proc.devRef .tc main_arg2) : FVec F S8192x768 .f32) (ix2 t d) := by
  after_results_simp
  rw [h]
  exact take_list _ _ t d

/-- The row numbers of the four batch rows: the first batch row's, then zeros. -/
theorem rows_box (b : Fin 4) (t : Fin 8192) :
    (after hostOps0_5 V (Proc.devRef .tc main_v9) : IVec S4x8192 32) (ix2 b t)
      = if b.val = 0 then (V (Proc.devRef .tc main_v5) : IVec S8192 32) (ix1 t) else 0#32 := by
  after_results_simp
  exact scatter_row0 (by norm_num) scatter_S4x8192_S1_S8192_0_0_0_0_wf _ _ (fun _ => rfl) _ b t

/-- The column numbers likewise. -/
theorem cols_box (b : Fin 4) (t : Fin 8192) :
    (after hostOps0_5 V (Proc.devRef .tc main_v12) : IVec S4x8192 32) (ix2 b t)
      = if b.val = 0 then (V (Proc.devRef .tc main_v6) : IVec S8192 32) (ix1 t) else 0#32 := by
  after_results_simp
  exact scatter_row0 (by norm_num) scatter_S4x8192_S1_S8192_0_0_0_0_wf _ _ (fun _ => rfl) _ b t

end Cert.RefTake
-- ==== Proof.RefValue.lean ====
/- The reference's result read at an index. -/
module

public import proofs.«01_k».proof.Proof.RefNorm
public import proofs.«01_k».proof.Proof.RefTake

@[expose] public section

set_option maxRecDepth 20000

noncomputable section

namespace Cert.RefValue

open Idealize.ShloMosaic Idealize.ShloMosaic.StableHlo Cert.ReferenceIdeal Cert.ReferenceIdeal.Gen Cert.ReferenceIdeal.Value
open Cert.RefFrame hiding keep
open Cert.LayerNorm Cert.Spec Cert.RefNorm Cert.RefTake Cert.RefScan Cert.Scan

/-- The product of the joined row and column embeddings with the transposed projection matrix. -/
def joined (rows cols : FVec Ideal S4x8192x384 .f32) (W : FVec Ideal S768x768 .f32) : FVec Ideal S4x8192x768 .f32 :=
  Host.dotGeneral dot_S4x8192x768_S768x768_S4x8192x768_2_0_01_1_n_n none
    (concatenate S4x8192x768 2 [⟨S4x8192x384, rows⟩, ⟨S4x8192x384, cols⟩] concatenates_S4x8192x384_S4x8192x384_S4x8192x768_d2)
    (transpose S768x768 [1, 0] W transposes_S768x768_S768x768_1_0)

/-- One for a colour, zero for another token. -/
def mask (ids : IVec S4x8192 32) : FVec Ideal S4x8192x1 .f32 :=
  uitofp .f32 (broadcastInDim S4x8192x1 ![0, 1] bcast_S4x8192_S4x8192x1_0_1
    (andi (cmpi .sge ids (broadcastInDim S4x8192 ![] bcast_S_S4x8192 (constantI S_ 32 0#32)))
      (cmpi .sle ids (broadcastInDim S4x8192 ![] bcast_S_S4x8192 (constantI S_ 32 9#32)))))

/-- The sum that is normalised. -/
def summed (tok : FVec Ideal S4x8192x768 .f32) (pos : FVec Ideal S1x8192x768 .f32) (rows cols : FVec Ideal S4x8192x384 .f32)
    (W : FVec Ideal S768x768 .f32) (ids : IVec S4x8192 32) : FVec Ideal S4x8192x768 .f32 :=
  addf (addf tok (broadcastInDim S4x8192x768 ![0, 1, 2] bcast_S1x8192x768_S4x8192x768_0_1_2 pos))
    (mulf (joined rows cols W) (wide (mask ids)))

/-- The last stretch of the reference. -/
theorem last_eq (V : Valuation τ sig (Elt Ideal)) :
    (after hostOps0_12 V (Proc.devRef .tc main_v57) : FVec Ideal S4x8192x768 .f32)
      = layerNorm (summed (V (Proc.devRef .tc main_v13)) (V (Proc.devRef .tc main_v16)) (V (Proc.devRef .tc main_v17))
          (V (Proc.devRef .tc main_v18)) (V (Proc.devRef .tc main_arg5)) (V (Proc.devRef .tc main_arg0)))
        (V (Proc.devRef .tc main_arg6)) (V (Proc.devRef .tc main_arg7)) := by
  after_results_simp
  rfl

/-- The mask is one exactly at the colours. -/
theorem mask_apply (ids : IVec S4x8192 32) (b : Fin 4) (t : Fin 8192) :
    mask ids (ix3 b t 0) = if isCol (ids (ix2 b t)) then 1 else 0 := by
  have e : mask ids (ix3 b t 0) = (((IntOp.andi (BitVec.ofBool ((0#32).sle (ids (ix2 b t))))
      (BitVec.ofBool ((ids (ix2 b t)).sle 9#32))).toNat : ℝ) : EReal) := by
    unfold mask
    pointwise
    rfl
  rw [e]
  unfold isCol
  cases (0#32).sle (ids (ix2 b t)) <;> cases (ids (ix2 b t)).sle 9#32 <;> simp [IntOp.andi]

/-- The product is the sum of the two halves' products. -/
theorem joined_apply (rows cols : FVec Ideal S4x8192x384 .f32) (W : FVec Ideal S768x768 .f32) (b : Fin 4) (t : Fin 8192) (d : Fin 768) :
    joined rows cols W (ix3 b t d) = (∑ k : Fin 384, rows (ix3 b t k) * W (ix2 d ⟨k.val, by omega⟩))
      + ∑ k : Fin 384, cols (ix3 b t k) * W (ix2 d ⟨384 + k.val, by omega⟩) := by
  have e : joined rows cols W (ix3 b t d) = ∑ k : Fin 768,
      (concatenate S4x8192x768 2 [⟨S4x8192x384, rows⟩, ⟨S4x8192x384, cols⟩] concatenates_S4x8192x384_S4x8192x384_S4x8192x768_d2
        : FVec Ideal S4x8192x768 .f32) (ix3 b t k) * W (ix2 d k) := by
    unfold joined
    pointwise
  rw [e]
  refine (Fin.sum_univ_add (a := 384) (b := 384) _).trans (congrArg₂ (· + ·) ?_ ?_)
  · refine Finset.sum_congr rfl fun k _ => congrArg₂ (· * ·) ?_ rfl
    exact concatenate_pair_apply_left (t := S4x8192x768) 2 rows cols _ (ix3 b t ⟨k.val, by omega⟩) rfl (ix3 b t k) fun a => by
      match a with
      | ⟨0, _⟩ => rfl
      | ⟨1, _⟩ => rfl
      | ⟨2, _⟩ => rfl
  · refine Finset.sum_congr rfl fun k _ => congrArg₂ (· * ·) ?_ rfl
    exact concatenate_pair_apply_right (t := S4x8192x768) 2 rows cols _ (ix3 b t ⟨384 + k.val, by omega⟩) rfl rfl (ix3 b t k)
      (fun a ha => by
        match a, ha with
        | ⟨0, _⟩, _ => rfl
        | ⟨1, _⟩, _ => rfl
        | ⟨2, _⟩, ha => exact absurd rfl ha) (show k.val + 384 = 384 + k.val from Nat.add_comm _ _)

/-- The sum that is normalised, read at an entry. -/
theorem summed_apply (tok : FVec Ideal S4x8192x768 .f32) (pos : FVec Ideal S1x8192x768 .f32) (rows cols : FVec Ideal S4x8192x384 .f32)
    (W : FVec Ideal S768x768 .f32) (ids : IVec S4x8192 32) (b : Fin 4) (t : Fin 8192) (d : Fin 768) :
    summed tok pos rows cols W ids (ix3 b t d) = tok (ix3 b t d) + pos (ix3 0 t d)
      + joined rows cols W (ix3 b t d) * (if isCol (ids (ix2 b t)) then 1 else 0) := by
  have hp : (broadcastInDim S4x8192x768 ![0, 1, 2] bcast_S1x8192x768_S4x8192x768_0_1_2 pos) (ix3 b t d) = pos (ix3 0 t d) := by
    pointwise
  show tok (ix3 b t d) + broadcastInDim S4x8192x768 ![0, 1, 2] bcast_S1x8192x768_S4x8192x768_0_1_2 pos (ix3 b t d)
    + joined rows cols W (ix3 b t d) * wide (mask ids) (ix3 b t d) = _
  rw [hp, wide_apply, mask_apply]

/-- The product at a token whose row and column embeddings are rows `r` and `c` of the tables. -/
theorem joined_eq (rows cols : FVec Ideal S4x8192x384 .f32) (W : FVec Ideal S768x768 .f32) (re ce : Mat 30 384) (r c : Fin 30)
    (b : Fin 4) (t : Fin 8192) (hr : ∀ k, rows (ix3 b t k) = re (ix2 r k)) (hc : ∀ k, cols (ix3 b t k) = ce (ix2 c k)) (d : Fin 768) :
    joined rows cols W (ix3 b t d) = (rowProj re W r + colProj ce W c) d := by
  rw [joined_apply]
  exact congrArg₂ (· + ·) (Finset.sum_congr rfl fun k _ => congrArg (· * W (ix2 d ⟨k.val, by omega⟩)) (hr k))
    (Finset.sum_congr rfl fun k _ => congrArg (· * W (ix2 d ⟨384 + k.val, by omega⟩)) (hc k))

/-- A token's row taken out of the token table. -/
theorem tok_of (V : Valuation τ sig (Elt Ideal)) (ids : IVec S4x8192 32) (emb : Mat 15 768)
    (hi : (V (Proc.devRef .tc main_arg0) : IVec S4x8192 32) = ids) (he : (V (Proc.devRef .tc main_arg1) : FVec Ideal S15x768 .f32) = emb)
    (hr : ∀ i, (ids i).toNat < 15) (b : Fin 4) (t : Fin 8192) (d : Fin 768) :
    (after hostOps0_6 V (Proc.devRef .tc main_v13) : FVec Ideal S4x8192x768 .f32) (ix3 b t d) = tokRow emb (ids (ix2 b t)) d := by
  subst hi he
  rw [take_tok V hr]
  exact congrArg (fun k : Fin 15 => (V (Proc.devRef .tc main_arg1) : FVec Ideal S15x768 .f32) (ix2 k d))
    (Fin.ext (min_eq_left (Nat.le_of_lt_succ (hr (ix2 b t)))).symm)

variable (m : (ℓ : Loc nD τ sig) → Buf (Elt Ideal) ℓ) (c : Dev nD)

/-- An argument's contents. -/
abbrev arg (r : Ref sig .tc) := m ((c.tc : Thread nD τ).loc r)

/-- An argument at the loop's exit. -/
theorem exit_arg (r : Ref sig .tc) (hr : r ∈ RefFrame.argRefs) : exit m c (Proc.devRef .tc r) = arg m c r :=
  (RefFrame.keep condOps_writes r hr _).trans (RefFrame.trips_keep m r hr c 8192)

/-- A stretch leaves a buffer that it does not write as it was. -/
theorem skip {ops : List (HloOp τ sig (Elt Ideal))} {L : List (Ref sig .tc)}
    (hW : ops.Forall fun op => op.writes ⊆ (L.map (Proc.devRef (τ := τ) .tc)).toFinset)
    (V : Valuation τ sig (Elt Ideal)) (r : Ref sig .tc) (h : r ∉ L := by decide +kernel) :
    after ops V (Proc.devRef .tc r) = V (Proc.devRef .tc r) :=
  after_of_writes_sub ops V hW h

/-- The rows held within 0 to 29. -/
theorem clip_rows (V : Valuation τ sig (Elt Ideal)) (i : S8192.Idx) :
    (after hostOps0_2 (after hostOps0_1 V) (Proc.devRef .tc main_v5) : IVec S8192 32) i
      = held29 ((V (Proc.devRef .tc main_v4_5) : IVec S8192 32) i) := by
  after_results_simp
  rfl

/-- The columns held within 0 to 29. -/
theorem clip_cols (V : Valuation τ sig (Elt Ideal)) (i : S8192.Idx) :
    (after hostOps0_4 (after hostOps0_3 V) (Proc.devRef .tc main_v6) : IVec S8192 32) i
      = held29 ((V (Proc.devRef .tc main_v4_6) : IVec S8192 32) i) := by
  after_results_simp
  rfl

/-- The contents after the first five of the stretches that follow the loop. -/
def P5 : Valuation τ sig (Elt Ideal) :=
  after hostOps0_5 (after hostOps0_4 (after hostOps0_3 (after hostOps0_2 (after hostOps0_1 (exit m c)))))

/-- The contents after the first eleven of them. -/
def P11 : Valuation τ sig (Elt Ideal) :=
  after hostOps0_11 (after hostOps0_10 (after hostOps0_9 (after hostOps0_8 (after hostOps0_7 (after hostOps0_6 (P5 m c))))))

/-- The row numbers. -/
theorem rows_eq (b : Fin 4) (t : Fin 8192) : (P5 m c (Proc.devRef .tc main_v9) : IVec S4x8192 32) (ix2 b t)
    = if b.val = 0 then rowOut (toks m c) t.val else 0#32 := by
  unfold P5
  rw [rows_box, skip hostOps0_4_writes _ main_v5, skip hostOps0_3_writes _ main_v5, clip_rows, exit_rows]
  rfl

/-- The column numbers. -/
theorem cols_eq (b : Fin 4) (t : Fin 8192) : (P5 m c (Proc.devRef .tc main_v12) : IVec S4x8192 32) (ix2 b t)
    = if b.val = 0 then colOut (toks m c) t.val else 0#32 := by
  unfold P5
  rw [cols_box, clip_cols, skip hostOps0_2_writes _ main_v4_6, skip hostOps0_1_writes _ main_v4_6, exit_cols]
  rfl

/-- An argument after the first five stretches. -/
theorem P5_arg (r : Ref sig .tc) (hr : r ∈ RefFrame.argRefs) : P5 m c (Proc.devRef .tc r) = arg m c r := by
  unfold P5
  rw [RefFrame.keep hostOps0_5_writes r hr, RefFrame.keep hostOps0_4_writes r hr, RefFrame.keep hostOps0_3_writes r hr,
    RefFrame.keep hostOps0_2_writes r hr, RefFrame.keep hostOps0_1_writes r hr, exit_arg m c r hr]

/-- An argument after the first eleven stretches. -/
theorem P11_arg (r : Ref sig .tc) (hr : r ∈ RefFrame.argRefs) : P11 m c (Proc.devRef .tc r) = arg m c r := by
  unfold P11
  rw [RefFrame.keep hostOps0_11_writes r hr, RefFrame.keep hostOps0_10_writes r hr, RefFrame.keep hostOps0_9_writes r hr,
    RefFrame.keep hostOps0_8_writes r hr, RefFrame.keep hostOps0_7_writes r hr, RefFrame.keep hostOps0_6_writes r hr, P5_arg m c r hr]

/-- The ids, as the reference holds them. -/
abbrev ids : Ids := arg m c main_arg0

/-- The row number of a token. -/
theorem rows_no (b : Fin 4) (t : Fin 8192) :
    ((P5 m c (Proc.devRef .tc main_v9) : IVec S4x8192 32) (ix2 b t)).toNat = (rowNo (ids m c) b t).val := by
  rw [rows_eq]
  unfold rowNo
  split
  · rfl
  · rfl

/-- The column number of a token. -/
theorem cols_no (b : Fin 4) (t : Fin 8192) :
    ((P5 m c (Proc.devRef .tc main_v12) : IVec S4x8192 32) (ix2 b t)).toNat = (colNo (ids m c) b t).val := by
  rw [cols_eq]
  unfold colNo
  split
  · rfl
  · rfl

/-- An index of the ids by its coordinates. -/
theorem ix2_eta (i : S4x8192.Idx) : ix2 (i 0) (i 1) = i := by
  funext a
  match a with
  | ⟨0, _⟩ => rfl
  | ⟨1, _⟩ => rfl

/-- The token's row of the token table. -/
theorem tok_eq (hr : ∀ i, (ids m c i).toNat < 15) (b : Fin 4) (t : Fin 8192) (d : Fin 768) :
    (P11 m c (Proc.devRef .tc main_v13) : FVec Ideal S4x8192x768 .f32) (ix3 b t d)
      = tokRow (arg m c main_arg1) (ids m c (ix2 b t)) d := by
  have hi : (P5 m c (Proc.devRef .tc main_arg0) : IVec S4x8192 32) = ids m c := P5_arg m c main_arg0 (by decide)
  unfold P11
  rw [skip hostOps0_11_writes _ main_v13, skip hostOps0_10_writes _ main_v13, skip hostOps0_9_writes _ main_v13,
    skip hostOps0_8_writes _ main_v13, skip hostOps0_7_writes _ main_v13]
  exact tok_of _ _ _ hi (P5_arg m c main_arg1 (by decide)) hr b t d

/-- The token's row of the position table. -/
theorem pos_eq (t : Fin 8192) (d : Fin 768) :
    (P11 m c (Proc.devRef .tc main_v16) : FVec Ideal S1x8192x768 .f32) (ix3 0 t d) = (arg m c main_arg2 : Mat 8192 768) (ix2 t d) := by
  have h9 : ∀ V : Valuation τ sig (Elt Ideal), (after hostOps0_9 V (Proc.devRef .tc main_v16) : FVec Ideal S1x8192x768 .f32) (ix3 0 t d)
      = (V (Proc.devRef .tc main_v15) : FVec Ideal S8192x768 .f32) (ix2 t d) := fun V => by
    after_results_simp
    pointwise
  have h7 : ∀ V : Valuation τ sig (Elt Ideal), (after hostOps0_7 V (Proc.devRef .tc main_v14) : IVec S8192 32) = iotaInDim S8192 32 0 :=
    fun V => by after_results_simp
  unfold P11
  rw [skip hostOps0_11_writes _ main_v16, skip hostOps0_10_writes _ main_v16, h9, take_pos _ (h7 _),
    RefFrame.keep hostOps0_7_writes main_arg2 (by decide), RefFrame.keep hostOps0_6_writes main_arg2 (by decide),
    P5_arg m c main_arg2 (by decide)]

/-- The contents after the first nine stretches. -/
def P9 : Valuation τ sig (Elt Ideal) :=
  after hostOps0_9 (after hostOps0_8 (after hostOps0_7 (after hostOps0_6 (P5 m c))))

/-- The row numbers after the first nine stretches. -/
theorem P9_rows : (P9 m c (Proc.devRef .tc main_v9) : IVec S4x8192 32) = P5 m c (Proc.devRef .tc main_v9) := by
  unfold P9
  rw [skip hostOps0_9_writes _ main_v9, skip hostOps0_8_writes _ main_v9, skip hostOps0_7_writes _ main_v9,
    skip hostOps0_6_writes _ main_v9]

/-- The column numbers after the first nine stretches. -/
theorem P9_cols : (P9 m c (Proc.devRef .tc main_v12) : IVec S4x8192 32) = P5 m c (Proc.devRef .tc main_v12) := by
  unfold P9
  rw [skip hostOps0_9_writes _ main_v12, skip hostOps0_8_writes _ main_v12, skip hostOps0_7_writes _ main_v12,
    skip hostOps0_6_writes _ main_v12]

/-- An argument after the first nine stretches. -/
theorem P9_arg (r : Ref sig .tc) (hr : r ∈ RefFrame.argRefs) : P9 m c (Proc.devRef .tc r) = arg m c r := by
  unfold P9
  rw [RefFrame.keep hostOps0_9_writes r hr, RefFrame.keep hostOps0_8_writes r hr, RefFrame.keep hostOps0_7_writes r hr,
    RefFrame.keep hostOps0_6_writes r hr, P5_arg m c r hr]

/-- The token's row embedding. -/
theorem row_eq (b : Fin 4) (t : Fin 8192) (k : Fin 384) :
    (P11 m c (Proc.devRef .tc main_v17) : FVec Ideal S4x8192x384 .f32) (ix3 b t k)
      = (arg m c main_arg3 : Mat 30 384) (ix2 (rowNo (ids m c) b t) k) := by
  show (after hostOps0_11 (after hostOps0_10 (P9 m c)) (Proc.devRef .tc main_v17) : FVec Ideal S4x8192x384 .f32) (ix3 b t k) = _
  rw [skip hostOps0_11_writes _ main_v17, take_row (P9 m c) (fun i => by
    rw [P9_rows, ← ix2_eta i]
    exact (rows_no m c (i 0) (i 1)).trans_lt (Fin.isLt _)), P9_arg m c main_arg3 (by decide)]
  refine congrArg (fun r : Fin 30 => (arg m c main_arg3 : Mat 30 384) (ix2 r k)) (Fin.ext ?_)
  show ((P9 m c (Proc.devRef .tc main_v9) : IVec S4x8192 32) (ix2 b t)).toNat = _
  rw [P9_rows, rows_no]

/-- The token's column embedding. -/
theorem col_eq (b : Fin 4) (t : Fin 8192) (k : Fin 384) :
    (P11 m c (Proc.devRef .tc main_v18) : FVec Ideal S4x8192x384 .f32) (ix3 b t k)
      = (arg m c main_arg4 : Mat 30 384) (ix2 (colNo (ids m c) b t) k) := by
  have h10 : (after hostOps0_10 (P9 m c) (Proc.devRef .tc main_v12) : IVec S4x8192 32) = P5 m c (Proc.devRef .tc main_v12) := by
    rw [skip hostOps0_10_writes _ main_v12, P9_cols]
  show (after hostOps0_11 (after hostOps0_10 (P9 m c)) (Proc.devRef .tc main_v18) : FVec Ideal S4x8192x384 .f32) (ix3 b t k) = _
  rw [take_col (after hostOps0_10 (P9 m c)) (fun i => by
    rw [h10, ← ix2_eta i]
    exact (cols_no m c (i 0) (i 1)).trans_lt (Fin.isLt _)), RefFrame.keep hostOps0_10_writes main_arg4 (by decide),
    P9_arg m c main_arg4 (by decide)]
  refine congrArg (fun r : Fin 30 => (arg m c main_arg4 : Mat 30 384) (ix2 r k)) (Fin.ext ?_)
  show ((after hostOps0_10 (P9 m c) (Proc.devRef .tc main_v12) : IVec S4x8192 32) (ix2 b t)).toNat = _
  rw [h10, cols_no]

/-- The normalised sum, read at an entry, is the token's embedding. -/
theorem embed_eq (hr : ∀ i, (ids m c i).toNat < 15) (b : Fin 4) (t : Fin 8192) (d : Fin 768) :
    summed (P11 m c (Proc.devRef .tc main_v13)) (P11 m c (Proc.devRef .tc main_v16)) (P11 m c (Proc.devRef .tc main_v17))
      (P11 m c (Proc.devRef .tc main_v18)) (P11 m c (Proc.devRef .tc main_arg5)) (P11 m c (Proc.devRef .tc main_arg0)) (ix3 b t d)
      = embed (ids m c) (arg m c main_arg1) (arg m c main_arg2) (arg m c main_arg3) (arg m c main_arg4) (arg m c main_arg5) b t d := by
  rw [summed_apply, tok_eq m c hr, pos_eq, joined_eq _ _ _ _ _ _ _ b t (row_eq m c b t) (col_eq m c b t) d,
    P11_arg m c main_arg5 (by decide), P11_arg m c main_arg0 (by decide)]
  show _ = tokRow _ _ d + _ + spatial (ids m c) _ _ _ b t d
  unfold spatial
  split
  · rw [mul_one]
  · rw [mul_zero]
    rfl

/-- The reference's result: the normalised embedding of each token. -/
theorem result_eq (hr : ∀ i, (ids m c i).toNat < 15) (b : Fin 4) (t : Fin 8192) (d : Fin 768) :
    (afterL postI (exit m c) (Proc.devRef .tc main_v57) : FVec Ideal S4x8192x768 .f32) (ix3 b t d)
      = normed (embed (ids m c) (arg m c main_arg1) (arg m c main_arg2) (arg m c main_arg3) (arg m c main_arg4) (arg m c main_arg5) b t)
        (arg m c main_arg6) (arg m c main_arg7) d := by
  show (after hostOps0_12 (P11 m c) (Proc.devRef .tc main_v57) : FVec Ideal S4x8192x768 .f32) (ix3 b t d) = _
  rw [last_eq, layerNorm_apply, P11_arg m c main_arg6 (by decide), P11_arg m c main_arg7 (by decide)]
  exact congrArg (fun x => normed x _ _ d) (funext (embed_eq m c hr b t))

end Cert.RefValue
-- ==== Proof.KernelRun.lean ====
/- The kernel's run: its result buffer ends at the value of the last boundary, its arguments as launched. -/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- Every execution ends with every unscoped buffer of every device at the contents of the last boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- Every execution ends with the result at its contents of the last boundary and the arguments as launched. -/
theorem result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v7 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run m ρ)

end Cert.KernelRun
-- ==== Proof.GridKernel.lean ====
/- The kernel's row and column blocks: each entry is where the walk over the tokens stands. -/
module

public import proofs.«01_k».proof.Proof.Gen.KernelIdeal.Frame
public import proofs.«01_k».proof.Proof.Scan
public import Idealize.ShloMosaic.Lib.Pointwise
public import Idealize.ShloMosaic.Lib.Pipeline.ValueKit

@[expose] public section

noncomputable section

namespace Cert.GridKernel

open Idealize.ShloMosaic Cert.KernelIdeal Cert.KernelIdeal.Gen Cert.Scan

/-! ## A row vector read by its column -/

/-- Entry `j` of the row vector `v` is `f j`. -/
def Reads {w : ℕ} (v : IVec S1x8192 w) (f : ℕ → BitVec w) : Prop := ∀ i, v i = f (i 1).val

/-- The vector that a fill of `d` places and the first `8192 - d` entries of `v` make is `v` moved up by `d` places. -/
theorem reads_moved {v : IVec S1x8192 32} {f : ℕ → BitVec 32} (e : BitVec 32) (d : ℕ) {A B : Shape}
    (hd : d ≤ 8192) (hA : A = ⟨2, ![1, d]⟩) (hB : B = ⟨2, ![1, 8192 - d]⟩) (hs : S1x8192.Slices ![0, 0] B)
    (hc : Shape.Concatenates [A, B] S1x8192 1) (hv : Reads v f) :
    Reads (concatenate S1x8192 1 [⟨A, broadcast A e⟩, ⟨B, extractStridedSlice B ![0, 0] v hs⟩] hc) (moved e d f) := by
  subst hA hB
  intro i
  rw [concatenate_pair_apply]
  by_cases h : (i 1).val < d
  · exact (dif_pos h).trans (if_neg (by omega)).symm
  · refine (dif_neg h).trans (Eq.trans ?_ (if_pos (by omega)).symm)
    rw [Pointwise.extractStridedSlice_apply, hv]
    simp [Shape.Idx.norm_def]

/-- One step of the running maximum. -/
theorem reads_max {v : IVec S1x8192 32} {e : BitVec 32} {f : ℕ → BitVec 32} {k : ℕ} {A B : Shape}
    (hk : 2 ^ k ≤ 8192) (hA : A = ⟨2, ![1, 2 ^ k]⟩) (hB : B = ⟨2, ![1, 8192 - 2 ^ k]⟩) {hs : S1x8192.Slices ![0, 0] B}
    {hc : Shape.Concatenates [A, B] S1x8192 1} (hv : Reads v (doubled IntOp.maxsi e f k)) :
    Reads (maxsi v (concatenate S1x8192 1 [⟨A, broadcast A e⟩, ⟨B, extractStridedSlice B ![0, 0] v hs⟩] hc))
      (doubled IntOp.maxsi e f (k + 1)) := fun i =>
  congrArg₂ IntOp.maxsi (hv i) (reads_moved e _ hk hA hB hs hc hv i)

/-- One step of the running sum. -/
theorem reads_add {v : IVec S1x8192 32} {f : ℕ → BitVec 32} {k : ℕ} {A B : Shape}
    (hk : 2 ^ k ≤ 8192) (hA : A = ⟨2, ![1, 2 ^ k]⟩) (hB : B = ⟨2, ![1, 8192 - 2 ^ k]⟩) {hs : S1x8192.Slices ![0, 0] B}
    {hc : Shape.Concatenates [A, B] S1x8192 1} (hv : Reads v (doubled IntOp.addi 0#32 f k)) :
    Reads (addi v (concatenate S1x8192 1 [⟨A, broadcast A 0#32⟩, ⟨B, extractStridedSlice B ![0, 0] v hs⟩] hc))
      (doubled IntOp.addi 0#32 f (k + 1)) := fun i =>
  congrArg₂ IntOp.addi (hv i) (reads_moved 0#32 _ hk hA hB hs hc hv i)

/-- A function known below 8192 reads as well. -/
theorem Reads.congr {w : ℕ} {v : IVec S1x8192 w} {f g : ℕ → BitVec w} (h : Reads v f) (hfg : ∀ j < 8192, f j = g j) :
    Reads v g := fun i => (h i).trans (hfg _ (i 1).isLt)

/-- A vector of full running folds moved up by one place holds the folds before each entry. -/
theorem reads_before {v : IVec S1x8192 32} {op : BitVec 32 → BitVec 32 → BitVec 32} {e : BitVec 32} {f : ℕ → BitVec 32}
    {hs : S1x8192.Slices ![0, 0] S1x8191} {hc : Shape.Concatenates [S1x1, S1x8191] S1x8192 1}
    (hv : Reads v fun j => run op e f (j + 1)) :
    Reads (concatenate S1x8192 1 [⟨S1x1, broadcast S1x1 e⟩, ⟨S1x8191, extractStridedSlice S1x8191 ![0, 0] v hs⟩] hc)
      (run op e f) :=
  (reads_moved e 1 (by decide) rfl rfl hs hc hv).congr fun j _ => by
    rcases j with _ | j
    · rfl
    · exact if_pos (by omega)

/-- Two row vectors compared entry by entry. -/
theorem reads_sgt {v w : IVec S1x8192 32} {f g : ℕ → BitVec 32} (hv : Reads v f) (hw : Reads w g) :
    Reads (cmpi .sgt v w) fun j => IntOp.cmpi .sgt (f j) (g j) := fun i => congrArg₂ (IntOp.cmpi .sgt) (hv i) (hw i)

/-- Two row vectors subtracted entry by entry. -/
theorem reads_sub {v w : IVec S1x8192 32} {f g : ℕ → BitVec 32} (hv : Reads v f) (hw : Reads w g) :
    Reads (subi v w) fun j => IntOp.subi (f j) (g j) := fun i => congrArg₂ IntOp.subi (hv i) (hw i)

/-! ## The flags -/

variable {F : FTy → Type} [FloatOps F] [Named F] (x : Vec F S1x8192 .i32) (t : ℕ → BitVec 32) (ht : Reads (w := 32) x t)

/-- The word of a test. -/
abbrev bit (b : ℕ → Bool) (j : ℕ) : BitVec 1 := BitVec.ofBool (b j)

/-- The disjunction of two tests' words is the word of their disjunction. -/
theorem ori_bit (a b : Bool) : IntOp.ori (BitVec.ofBool a) (BitVec.ofBool b) = BitVec.ofBool (a || b) := by
  cases a <;> cases b <;> rfl

/-- The conjunction of two tests' words is the word of their conjunction. -/
theorem andi_bit (a b : Bool) : IntOp.andi (BitVec.ofBool a) (BitVec.ofBool b) = BitVec.ofBool (a && b) := by
  cases a <;> cases b <;> rfl

/-- A choice by a test's word. -/
theorem select_bit {α : Type} (b : Bool) (p q : α) : Scalar.select (BitVec.ofBool b) p q = if b then p else q := by
  cases b <;> rfl

/-- The token window's load reads the tokens. -/
theorem ld_tok : View.ld x r0_0 = x := View.ld_unit_zero (by funext a; fin_cases a <;> rfl) _ x

include ht

/-- The token vector reads the tokens. -/
theorem reads_tok : Reads (k0_pay1 x) t := fun i =>
  (congrFun (shapeCast_self x _) i).trans (ht i)

/-- The first mask marks the begin tokens. -/
theorem reads_bos : Reads (k0_pay2 x) (bit fun j => isBos (t j)) := fun i =>
  congrArg (fun y => IntOp.cmpi .eq y 11#32) (reads_tok x t ht i)

/-- The second mask marks the row tokens. -/
theorem reads_rowt : Reads (k0_pay3 x) (bit fun j => isRow (t j)) := fun i =>
  congrArg (fun y => IntOp.cmpi .eq y 14#32) (reads_tok x t ht i)

/-- The third mask marks the end and padding tokens. -/
theorem reads_end : Reads (k0_pay4 x) (bit fun j => isEnd (t j)) := fun i =>
  (congrArg (fun y => IntOp.ori (IntOp.cmpi .eq y 12#32) (IntOp.cmpi .eq y 10#32)) (reads_tok x t ht i)).trans (ori_bit _ _)

/-- The fourth mask marks the begin and separator tokens. -/
theorem reads_bs : Reads (k0_pay5 x) (bit fun j => isBos (t j) || isSep (t j)) := fun i =>
  (congrArg (fun y => IntOp.ori (IntOp.cmpi .eq y 11#32) (IntOp.cmpi .eq y 13#32)) (reads_tok x t ht i)).trans (ori_bit _ _)

/-- The fifth mask marks the begin, separator and row tokens. -/
theorem reads_bsr : Reads (k0_pay6 x) (bit fun j => isBos (t j) || isSep (t j) || isRow (t j)) := fun i =>
  (congrArg₂ IntOp.ori (reads_bs x t ht i) (reads_rowt x t ht i)).trans (ori_bit _ _)

omit ht

/-! ## The scans -/

/-- The step numbers at which `p` holds, `-1` elsewhere. -/
abbrev mark (p : ℕ → Bool) (j : ℕ) : BitVec 32 := if p j then BitVec.ofNat 32 j else 4294967295#32

/-- The step numbers kept where a test's word is 1. -/
theorem reads_mark {c : IVec S1x8192 1} {p : ℕ → Bool} (hc : Reads c (bit p)) :
    Reads (select c (iota .tc S1x8192 32 [1] iota_S1x8192_d1_w32) (broadcast S1x8192 4294967295#32)) (mark p) := fun i => by
  show Scalar.select (c i) _ _ = _
  rw [hc i, select_bit]
  simp only [mark]
  congr 1
  simp [pointwise, iota]

/-- A full running maximum of marks is the last mark. -/
theorem reads_last {v : IVec S1x8192 32} {p : ℕ → Bool} (hv : Reads v (doubled IntOp.maxsi 4294967295#32 (mark p) 13)) :
    Reads v fun j => last p (j + 1) :=
  hv.congr fun j hj => doubled_max_mark p j hj

/-- A full running sum of a test's words is the total. -/
theorem reads_total {v : IVec S1x8192 32} {p : ℕ → Bool}
    (hv : Reads v (doubled IntOp.addi 0#32 (fun j => (bit p j).setWidth 32) 13)) : Reads v fun j => total p (j + 1) :=
  hv.congr fun j hj => doubled_add _ 13 j hj

/-- The totals at the resets, 0 elsewhere. -/
abbrev held (inc reset : ℕ → Bool) (j : ℕ) : BitVec 32 := if reset j then total inc (j + 1) else 0#32

/-- A vector of totals kept where a test's word is 1. -/
theorem reads_held {v : IVec S1x8192 32} {c : IVec S1x8192 1} {inc reset : ℕ → Bool} (hv : Reads v fun j => total inc (j + 1))
    (hc : Reads c (bit reset)) : Reads (select c v (broadcast S1x8192 0#32)) (held inc reset) := fun i => by
  show Scalar.select (c i) (v i) 0#32 = _
  rw [hc i, hv i, select_bit]

/-- A full running maximum of kept totals is the base. -/
theorem reads_base {v : IVec S1x8192 32} {inc reset : ℕ → Bool} (hv : Reads v (doubled IntOp.maxsi 0#32 (held inc reset) 13)) :
    Reads v fun j => base inc reset (j + 1) :=
  hv.congr fun j hj => doubled_max_held inc reset j hj

include ht

/-- The last start up to and including each token. -/
theorem reads_lastBos : Reads (k0_pay9 (k0_pay7 x) (k0_pay8 x)) fun j => last (fun j => isBos (t j)) (j + 1) := by
  apply reads_last
  unfold k0_pay9 k0_pay8 k0_pay7
  iterate 13
    refine reads_max ?_ ?_ ?_ ?_
    · decide
    · rfl
    · rfl
  exact reads_mark (reads_bos x t ht)

variable (x1 : Vec F S15x768 .f32) (x2 x3 : Vec F S30x384 .f32) (x4 : Vec F S768x768 .f32)

/-- Whether each token lies within a grid. -/
theorem reads_inGrid : Reads (k0_pay32 x x1 x2 x3 x4) (bit (inGrid t)) := by
  have hx := ld_tok x
  unfold k0_pay32
  rw [hx]
  have hb := reads_lastBos x t ht
  generalize k0_pay9 (k0_pay7 x) (k0_pay8 x) = lb at hb ⊢
  unfold k0_pay11 k0_pay10
  have hgt : ∀ {e : IVec S1x8192 32} {hs hc hs' hc'}, Reads e (doubled IntOp.maxsi 4294967295#32 (mark fun j => isEnd (t j)) 13) →
      Reads (cmpi .sgt
        (concatenate S1x8192 1 [⟨S1x1, broadcast S1x1 4294967295#32⟩, ⟨S1x8191, extractStridedSlice S1x8191 ![0, 0] lb hs⟩] hc)
        (concatenate S1x8192 1 [⟨S1x1, broadcast S1x1 4294967295#32⟩, ⟨S1x8191, extractStridedSlice S1x8191 ![0, 0] e hs'⟩] hc'))
        (bit (inGrid t)) := fun he =>
    (reads_sgt (reads_before hb) (reads_before (reads_last he))).congr fun j hj => by
      simp only [bit, inGrid_eq t j (by omega)]; rfl
  refine hgt ?_
  iterate 13
    refine reads_max ?_ ?_ ?_ ?_
    · decide
    · rfl
    · rfl
  exact reads_mark (reads_end x t ht)

/-- Whether each token is a colour within a grid. -/
theorem reads_inColor : Reads (k0_pay37 x x1 x2 x3 x4) (bit (inColor t)) := fun i => by
  have hx := ld_tok x
  have h1 := reads_tok x t ht i
  have h2 := reads_inGrid x t ht x1 x2 x3 x4 i
  show IntOp.andi (IntOp.andi (k0_pay32 x x1 x2 x3 x4 i) (IntOp.cmpi .sge (k0_pay1 (View.ld x r0_0) i) 0#32))
    (IntOp.cmpi .sle (k0_pay1 (View.ld x r0_0) i) 9#32) = _
  rw [hx, h1, h2]
  refine (congrArg (IntOp.andi · _) (andi_bit _ _)).trans ((andi_bit _ _).trans ?_)
  simp only [bit, inColor, isCol, Bool.and_assoc]

/-- The row tokens up to and including each token. -/
theorem reads_rows : Reads (k0_pay13 (k0_pay33 x x1 x2 x3 x4) 0#32) fun j => total (fun j => isRow (t j)) (j + 1) := by
  have hx := ld_tok x
  apply reads_total
  unfold k0_pay33
  rw [hx]
  unfold k0_pay13 k0_pay12
  iterate 13
    refine reads_add ?_ ?_ ?_ ?_
    · decide
    · rfl
    · rfl
  exact fun i => congrArg (BitVec.setWidth 32) (reads_rowt x t ht i)

/-- The colours within a grid up to and including each token. -/
theorem reads_colors : Reads (k0_pay23 (k0_pay38 x x1 x2 x3 x4)) fun j => total (inColor t) (j + 1) := by
  apply reads_total
  unfold k0_pay38 k0_pay23 k0_pay22
  iterate 13
    refine reads_add ?_ ?_ ?_ ?_
    · decide
    · rfl
    · rfl
  exact fun i => congrArg (BitVec.setWidth 32) (reads_inColor x t ht x1 x2 x3 x4 i)

/-- The row block's entries. -/
theorem rows_apply (i : S1x8192.Idx) : out0_6 x x1 x2 x3 x4 i = rowOut t (i 1).val := by
  unfold out0_6
  rw [View.canon_cons_unit_zero (by funext a; fin_cases a <;> rfl)]
  have hS := reads_rows x t ht x1 x2 x3 x4
  have hc := reads_inColor x t ht x1 x2 x3 x4
  have hz : Reads (k0_pay34 x x1 x2 x3 x4) _ := reads_held hS (by
    have hx := ld_tok x
    show Reads (k0_pay5 (View.ld x r0_0)) _
    rw [hx]; exact reads_bs x t ht)
  have hp : k0_pay36 x x1 x2 x3 x4
      = extractStridedSlice S1x8191 ![0, 0] (k0_pay34 x x1 x2 x3 x4) slices_S1x8192_o0_0_S1x8191 := rfl
  rw [hp]
  generalize k0_pay34 x x1 x2 x3 x4 = z at hz ⊢
  generalize k0_pay13 (k0_pay33 x x1 x2 x3 x4) 0#32 = S at hS ⊢
  generalize k0_pay37 x x1 x2 x3 x4 = c at hc ⊢
  have hr : Reads (k0_pay20 S (k0_pay17 z (k0_pay35 x x1 x2 x3 x4)
      (extractStridedSlice S1x8191 ![0, 0] z slices_S1x8192_o0_0_S1x8191)) k0_pay18
      (k0_pay19 z (k0_pay35 x x1 x2 x3 x4) (extractStridedSlice S1x8191 ![0, 0] z slices_S1x8192_o0_0_S1x8191)))
      (rowAt t) := by
    unfold k0_pay20 k0_pay19 k0_pay18 k0_pay17 k0_pay35 k0_pay15
    refine (reads_sub (reads_before hS) (reads_before (reads_base ?_))).congr fun j hj => (rowAt_eq t j (by omega)).symm
    iterate 13
      refine reads_max ?_ ?_ ?_ ?_
      · decide
      · rfl
      · rfl
    exact hz
  generalize k0_pay20 S _ _ _ = r at hr ⊢
  show IntOp.minsi 29#32 (IntOp.maxsi 0#32 (Scalar.select (c i) (r i) 0#32)) = _
  rw [hc i, hr i, select_bit]
  rfl

/-- The column block's entries. -/
theorem cols_apply (i : S1x8192.Idx) : out0_7 x x1 x2 x3 x4 i = colOut t (i 1).val := by
  unfold out0_7
  rw [View.canon_cons_unit_zero (by funext a; fin_cases a <;> rfl), ld_tok]
  have hS := reads_colors x t ht x1 x2 x3 x4
  have hc := reads_inColor x t ht x1 x2 x3 x4
  have hb := reads_bsr x t ht
  generalize k0_pay38 x x1 x2 x3 x4 = C at hS ⊢
  generalize k0_pay37 x x1 x2 x3 x4 = c at hc ⊢
  have hr : Reads (k0_pay27 c (k0_pay23 C) (k0_pay24 (k0_pay6 x) C) k0_pay25) fun j =>
      if inColor t j then colAt t j else 0#32 := by
    unfold k0_pay27 k0_pay24 k0_pay25
    have hz := reads_held hS hb
    generalize k0_pay23 C = S at hS hz ⊢
    generalize k0_pay6 x = b at hz ⊢
    refine fun i => (congrArg₂ (fun a b => Scalar.select a b 0#32) (hc i)
      ((reads_sub (reads_before hS) (reads_before (reads_base ?_))).congr (fun j hj => (colAt_eq t j (by omega)).symm) i)).trans
        (select_bit _ _ _)
    iterate 13
      refine reads_max ?_ ?_ ?_ ?_
      · decide
      · rfl
      · rfl
    exact hz
  generalize k0_pay27 c _ _ _ = r at hr ⊢
  show IntOp.minsi 29#32 (IntOp.maxsi 0#32 (r i)) = _
  rw [hr i]
  rfl

end Cert.GridKernel
-- ==== Proof.Prologue.lean ====
/- The kernel's table: its rows are the centred rows of the token table, of the projected grid embeddings, and of their sums. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

noncomputable section

namespace Cert.Prologue

open Idealize.ShloMosaic Cert.KernelIdeal Cert.KernelIdeal.Gen Cert.Scan Cert.LayerNorm Cert.Spec

/-- The kernel's named constant is one over 768. -/
theorem inv_d : (Named.named κ "inv_d" 0x3AAAAAAB#32 : Ideal .f32) = invD :=
  IdealRules.named_const.ideal_named_scalar _ _ _ _ rfl

variable (W : Vec Ideal S768x768 .f32) (re ce : Vec Ideal S30x384 .f32) (emb : Vec Ideal S15x768 .f32)

/-- The grid rows' projections. -/
def rows : FVec Ideal S30x768 .f32 :=
  matmul (φ₁ := .f32) (φ₂ := .f32) dot_S30x384_S768x384_S30x768_1_1_0_0_n_n none re
    (extractStridedSlice S768x384 ![0, 0] W slices_S768x768_o0_0_S768x384) (constant S30x768 .f32 0x00000000#32)

/-- The grid columns' projections. -/
def cols : FVec Ideal S30x768 .f32 :=
  matmul (φ₁ := .f32) (φ₂ := .f32) dot_S30x384_S768x384_S30x768_1_1_0_0_n_n none ce
    (extractStridedSlice S768x384 ![0, 384] W slices_S768x768_o0_384_S768x384) (constant S30x768 .f32 0x00000000#32)

/-- An entry of the projected row embeddings. -/
theorem rows_apply (r : Fin 30) (d : Fin 768) : rows W re (ix2 r d) = rowProj re W r d := by
  unfold rows rowProj
  pointwise

/-- An entry of the projected column embeddings. -/
theorem cols_apply (r : Fin 30) (d : Fin 768) : cols W ce (ix2 r d) = colProj ce W r d := by
  unfold cols colProj
  pointwise

/-- The token rows with the grid's first cell added for the colours. -/
def extended : FVec Ideal S15x768 .f32 :=
  addf emb (select (broadcastTo S15x768 (shapeCast S15x1
      (cmpi .sle (iota .tc S15x1 32 [0] iota_S15x1_d0_w32) (broadcast S15x1 9#32))
      shapeCasts_S15x1_S15x1) broadcasts_S15x1_S15x768)
    (broadcastTo S15x768 (shapeCast S1x768 (addf
      (extractStridedSlice S1x768 ![0, 0] (rows W re) slices_S30x768_o0_0_S1x768)
      (extractStridedSlice S1x768 ![0, 0] (cols W ce) slices_S30x768_o0_0_S1x768))
      shapeCasts_S1x768_S1x768) broadcasts_S1x768_S15x768)
    (broadcast S15x768 (Scalar.ofBits .f32 0x00000000#32 : Ideal .f32)))

/-- An entry of the extended embeddings: the token's, with the projections of position zero added for a colour. -/
theorem extended_apply (p : Fin 15) (d : Fin 768) :
    extended W re ce emb (ix2 p d) = emb (ix2 p d) + (if p.val ≤ 9 then rowProj re W 0 + colProj ce W 0 else 0 : Row) d := by
  have e : extended W re ce emb (ix2 p d) = emb (ix2 p d)
      + Scalar.select (IntOp.cmpi .sle (BitVec.ofNat 32 p.val) 9#32) (rows W re (ix2 0 d) + cols W ce (ix2 0 d)) 0 := by
    unfold extended
    pointwise
  rw [e, rows_apply, cols_apply]
  refine congrArg (emb (ix2 p d) + ·) ?_
  fin_cases p <;> rfl

/-- The table before its rows are centred. -/
def joined : FVec Ideal S128x768 .f32 :=
  concatenate S128x768 0 [⟨S15x768, emb⟩, ⟨S1x768, broadcast S1x768 (Scalar.ofBits .f32 0x00000000#32 : Ideal .f32)⟩,
    ⟨S30x768, rows W re⟩, ⟨S2x768, broadcast S2x768 (Scalar.ofBits .f32 0x00000000#32 : Ideal .f32)⟩,
    ⟨S30x768, cols W ce⟩, ⟨S2x768, broadcast S2x768 (Scalar.ofBits .f32 0x00000000#32 : Ideal .f32)⟩,
    ⟨S15x768, extended W re ce emb⟩, ⟨S33x768, broadcast S33x768 (Scalar.ofBits .f32 0x00000000#32 : Ideal .f32)⟩]
    concatenates_S15x768_S1x768_S30x768_S2x768_S30x768_S2x768_S15x768_S33x768_S128x768_d0

/-- The rows of a table less their means. -/
def centred (x : FVec Ideal S128x768 .f32) : FVec Ideal S128x768 .f32 :=
  subf x (broadcastTo S128x768 (mulf (shapeCast S128x1
      (multiReduction .add [1] S128 x 0x00000000#32 reduces_S128x768_S128 (.inl rfl) rfl) shapeCasts_S128_S128x1)
    (broadcast S128x1 (Named.named κ "inv_d" 0x3AAAAAAB#32))) broadcasts_S128x1_S128x768)

/-- An entry of the centred matrix: the row's entry less the row's mean. -/
theorem centred_apply (x : FVec Ideal S128x768 .f32) (n : Fin 128) (d : Fin 768) :
    centred x (ix2 n d) = cen (fun k => x (ix2 n k)) d := by
  unfold centred
  rw [inv_d]
  unfold cen
  pointwise

/-- Row `n` of the table before its rows are centred: the tokens, one zero, the grid rows, two zeros, the grid columns,
two zeros, the extended tokens, zeros. -/
def raw (n : ℕ) : Row := fun d =>
  if h : n < 15 then emb (ix2 ⟨n, h⟩ d)
  else if _h : n < 16 then 0
  else if h : n - 16 < 30 then rowProj re W ⟨n - 16, h⟩ d
  else if _h : n < 48 then 0
  else if h : n - 48 < 30 then colProj ce W ⟨n - 48, h⟩ d
  else if _h : n < 80 then 0
  else if h : n - 80 < 15 then
    emb (ix2 ⟨n - 80, h⟩ d) + (if n - 80 ≤ 9 then rowProj re W 0 + colProj ce W 0 else 0 : Row) d
  else 0

/-- Row `n` of the table is the centred row `n`. -/
theorem table_apply (n : Fin 128) (d : Fin 768) :
    k0_pay29 W re ce emb (ix2 n d) = cen (raw W re ce emb n.val) d := by
  refine (centred_apply (joined W re ce emb) n d).trans (congrArg (cen · d) (funext fun k => ?_))
  unfold joined
  pointwise
  unfold raw
  refine dite_congr rfl (fun _ => rfl) fun _ => dite_congr (propext (by omega)) (fun _ => rfl) fun _ =>
    dite_congr (propext (by omega)) (fun _ => (rows_apply ..).trans (congrArg (rowProj re W · k) (Fin.ext ?_))) fun _ =>
    dite_congr (propext (by omega)) (fun _ => rfl) fun _ =>
    dite_congr (propext (by omega)) (fun _ => (cols_apply ..).trans (congrArg (colProj ce W · k) (Fin.ext ?_))) fun _ =>
    dite_congr (propext (by omega)) (fun _ => rfl) fun _ =>
    dite_congr (propext (by omega)) (fun _ => (extended_apply ..).trans ?_) fun _ => rfl
  · simp only [Nat.sub_sub]
  · simp only [Nat.sub_sub]
  · simp only [Nat.sub_sub]

end Cert.Prologue
-- ==== Proof.Lookup.lean ====
/- The kernel's look-ups: a matrix of zeros and ones against the table picks out rows of the table. -/
module

public import proofs.«01_k».proof.Proof.Prologue

@[expose] public section

noncomputable section

namespace Cert.Lookup

open Idealize.ShloMosaic Cert.KernelIdeal Cert.KernelIdeal.Gen Cert.Scan Cert.LayerNorm Cert.Spec

/-- The column numbers of a row of 128 entries. -/
abbrev lanes : IVec S1024x128 32 := iota .tc S1024x128 32 [1] iota_S1024x128_d1_w32

/-- The matrix of zeros and ones that a mask stands for. -/
def ones (b : IVec S1024x128 1) : FVec Ideal S1024x128 .f32 := sitofp .f32 (extui 32 b natLt_1_32)

/-- An entry is one where the mask is set and zero elsewhere. -/
theorem ones_apply (b : IVec S1024x128 1) (i : Fin 1024) (k : Fin 128) :
    ones b (ix2 i k) = if b (ix2 i k) = 1#1 then 1 else 0 := by
  have h : ∀ v : BitVec 1, (FloatOps.sitofp (F := Ideal) .f32 (v.setWidth 32) : EReal) = if v = 1#1 then 1 else 0 := by
    intro v
    have : v = 0#1 ∨ v = 1#1 := by revert v; decide
    rcases this with rfl | rfl
    · show (((0#32 : BitVec 32).toInt : ℝ) : EReal) = 0
      norm_num
    · show (((1#32 : BitVec 32).toInt : ℝ) : EReal) = 1
      norm_num
  exact h _

/-- Which column a token of the batch rows after the first marks. -/
def other (v : Vec Ideal S1024x1 .i32) : IVec S1024x128 1 :=
  cmpi .eq lanes (broadcastTo S1024x128 (addi (broadcast S1024x1 80#32) (minsi (broadcast S1024x1 14#32)
    (maxsi (broadcast S1024x1 0#32) (shapeCast S1024x1 v shapeCasts_S1024x1_S1024x1)))) broadcasts_S1024x1_S1024x128)

/-- A column number equals a word below 128 exactly when their values agree. -/
theorem eq_lane (w : BitVec 32) (hw : w.toNat < 128) (k : Fin 128) :
    IntOp.cmpi .eq (BitVec.ofNat 32 k.val) w = 1#1 ↔ k.val = w.toNat := by
  have : IntOp.cmpi .eq (BitVec.ofNat 32 k.val) w = if BitVec.ofNat 32 k.val = w then 1#1 else 0#1 := by
    show BitVec.ofBool (BitVec.ofNat 32 k.val == w) = _
    by_cases h : BitVec.ofNat 32 k.val = w
    · simp [h]
    · rw [beq_eq_false_iff_ne.mpr h, if_neg h]; rfl
  rw [this]
  constructor
  · intro h
    have h' : BitVec.ofNat 32 k.val = w := by by_contra hn; simp [hn] at h
    rw [← h']; simp; omega
  · intro h
    rw [if_pos]
    apply BitVec.eq_of_toNat_eq
    simp; omega

/-- Clipping a token id in range leaves it. -/
theorem clip_eq (w : BitVec 32) (hw : w.toNat < 15) : IntOp.minsi 14#32 (IntOp.maxsi 0#32 w) = w := by
  obtain ⟨n, hn, rfl⟩ : ∃ n, n < 15 ∧ w = BitVec.ofNat 32 n := ⟨w.toNat, hw, by simp⟩
  interval_cases n <;> rfl

/-- A token of a later batch row marks exactly the lane `80` above it. -/
theorem other_apply (v : Vec Ideal S1024x1 .i32) (i : Fin 1024) (k : Fin 128) (hv : (v (ix2 i 0)).toNat < 15) :
    other v (ix2 i k) = 1#1 ↔ k.val = 80 + (v (ix2 i 0)).toNat := by
  have e : other v (ix2 i k) = IntOp.cmpi .eq (BitVec.ofNat 32 k.val)
      (IntOp.addi 80#32 (IntOp.minsi 14#32 (IntOp.maxsi 0#32 (v (ix2 i 0))))) := by
    unfold other
    pointwise
  have h : (IntOp.addi 80#32 (v (ix2 i 0))).toNat = 80 + (v (ix2 i 0)).toNat := by
    simp [IntOp.addi]; omega
  rw [e, clip_eq _ hv, eq_lane _ (by omega), h]

/-- Which columns a token of the first batch row marks: its own, its grid row's and its grid column's. -/
def leading (v r c : Vec Ideal S1024x1 .i32) : IVec S1024x128 1 :=
  ori (k1_pay8 v r) (cmpi .eq lanes (k1_pay9 v c))

/-- The column of the grid row's projection. -/
def rowLane (w r : BitVec 32) : ℕ := if isCol w then 16 + r.toNat else 46
/-- The column of the grid column's projection. -/
def colLane (w c : BitVec 32) : ℕ := if isCol w then 48 + c.toNat else 78

/-- Selecting by the kernel's colour test is selecting by being a colour. -/
theorem select_col (w x y : BitVec 32) (hw : w.toNat < 15) :
    Scalar.select (IntOp.andi (IntOp.cmpi .sge w 0#32) (IntOp.cmpi .sle w 9#32)) x y = if isCol w then x else y := by
  obtain ⟨n, hn, rfl⟩ : ∃ n, n < 15 ∧ w = BitVec.ofNat 32 n := ⟨w.toNat, hw, by simp⟩
  interval_cases n <;> rfl

/-- A token of the first batch row marks exactly its own lane, its row lane and its column lane. -/
theorem leading_apply (v r c : Vec Ideal S1024x1 .i32) (i : Fin 1024) (k : Fin 128) (hv : (v (ix2 i 0)).toNat < 15)
    (hr : (r (ix2 i 0)).toNat < 30) (hc : (c (ix2 i 0)).toNat < 30) :
    leading v r c (ix2 i k) = 1#1 ↔ k.val = (v (ix2 i 0)).toNat ∨ k.val = rowLane (v (ix2 i 0)) (r (ix2 i 0))
      ∨ k.val = colLane (v (ix2 i 0)) (c (ix2 i 0)) := by
  have e : leading v r c (ix2 i k) = IntOp.ori (IntOp.ori
      (IntOp.cmpi .eq (BitVec.ofNat 32 k.val) (IntOp.minsi 14#32 (IntOp.maxsi 0#32 (v (ix2 i 0)))))
      (IntOp.cmpi .eq (BitVec.ofNat 32 k.val) (Scalar.select
        (IntOp.andi (IntOp.cmpi .sge (v (ix2 i 0)) 0#32) (IntOp.cmpi .sle (v (ix2 i 0)) 9#32))
        (IntOp.addi 16#32 (r (ix2 i 0))) 46#32)))
      (IntOp.cmpi .eq (BitVec.ofNat 32 k.val) (Scalar.select
        (IntOp.andi (IntOp.cmpi .sge (v (ix2 i 0)) 0#32) (IntOp.cmpi .sle (v (ix2 i 0)) 9#32))
        (IntOp.addi 48#32 (c (ix2 i 0))) 78#32)) := by
    unfold leading k1_pay8 k1_pay9 k1_pay7 k1_pay6
    pointwise
  have h1 : (IntOp.addi 16#32 (r (ix2 i 0))).toNat = 16 + (r (ix2 i 0)).toNat := by simp [IntOp.addi]; omega
  have h2 : (IntOp.addi 48#32 (c (ix2 i 0))).toNat = 48 + (c (ix2 i 0)).toNat := by simp [IntOp.addi]; omega
  have hor : ∀ a b : BitVec 1, IntOp.ori a b = 1#1 ↔ a = 1#1 ∨ b = 1#1 := by decide
  rw [e, clip_eq _ hv, select_col _ _ _ hv, select_col _ _ _ hv, hor, hor, eq_lane _ (by omega), or_assoc]
  unfold rowLane colLane
  split_ifs
  · rw [eq_lane _ (by omega), eq_lane _ (by omega), h1, h2]
  · rw [eq_lane _ (by decide), eq_lane _ (by decide)]; rfl

/-- The four blocks of zeros and ones against the table. -/
def product (T : FVec Ideal S128x768 .f32) (A B C D : FVec Ideal S1024x128 .f32) : FVec Ideal S4096x768 .f32 :=
  matmul (φ₁ := .f32) (φ₂ := .f32) dot_S4096x128_S128x768_S4096x768_1_0_0_1_n_n none
    (concatenate S4096x128 0 [⟨S1024x128, A⟩, ⟨S1024x128, B⟩, ⟨S1024x128, C⟩, ⟨S1024x128, D⟩]
      concatenates_S1024x128_S1024x128_S1024x128_S1024x128_S4096x128_d0) T (constant S4096x768 .f32 0x00000000#32)

/-- The product's first 1024 rows come from the first matrix. -/
theorem product0 (T : FVec Ideal S128x768 .f32) (A B C D : FVec Ideal S1024x128 .f32) (i : Fin 1024) (d : Fin 768) :
    product T A B C D (ix2 ⟨i.val, by omega⟩ d) = ∑ k : Fin 128, A (ix2 i k) * T (ix2 k d) := by
  unfold product
  pointwise

/-- The product's second 1024 rows come from the second matrix. -/
theorem product1 (T : FVec Ideal S128x768 .f32) (A B C D : FVec Ideal S1024x128 .f32) (i : Fin 1024) (d : Fin 768) :
    product T A B C D (ix2 ⟨1024 + i.val, by omega⟩ d) = ∑ k : Fin 128, B (ix2 i k) * T (ix2 k d) := by
  unfold product
  pointwise

/-- The product's third 1024 rows come from the third matrix. -/
theorem product2 (T : FVec Ideal S128x768 .f32) (A B C D : FVec Ideal S1024x128 .f32) (i : Fin 1024) (d : Fin 768) :
    product T A B C D (ix2 ⟨2048 + i.val, by omega⟩ d) = ∑ k : Fin 128, C (ix2 i k) * T (ix2 k d) := by
  unfold product
  pointwise
  refine Finset.sum_congr rfl fun k _ => congrArg (· * T (ix2 k d)) ?_
  simp only [Nat.sub_sub]
  rw [dif_neg (by omega), dif_neg (by omega), dif_pos (by omega)]
  exact congrArg (fun j => C (ix2 j k)) (Fin.ext (by simp only; omega))

/-- The product's last 1024 rows come from the fourth matrix. -/
theorem product3 (T : FVec Ideal S128x768 .f32) (A B C D : FVec Ideal S1024x128 .f32) (i : Fin 1024) (d : Fin 768) :
    product T A B C D (ix2 ⟨3072 + i.val, by omega⟩ d) = ∑ k : Fin 128, D (ix2 i k) * T (ix2 k d) := by
  unfold product
  pointwise
  refine Finset.sum_congr rfl fun k _ => congrArg (· * T (ix2 k d)) ?_
  simp only [Nat.sub_sub]
  rw [dif_neg (by omega), dif_neg (by omega), dif_neg (by omega)]
  exact congrArg (fun j => D (ix2 j k)) (Fin.ext (by simp only; omega))

/-- A row of zeros and one 1 against a list picks out its entry there. -/
theorem pick (f : Fin 128 → EReal) (p : ℕ) (hp : p < 128) :
    ∑ k : Fin 128, (if k.val = p then 1 else 0) * f k = f ⟨p, hp⟩ := by
  rw [Finset.sum_eq_single ⟨p, hp⟩]
  · simp
  · intro k _ hk
    rw [if_neg (fun h => hk (Fin.ext h)), zero_mul]
  · simp

/-- A row of zeros and three 1s picks out the sum of the entries there. -/
theorem pick_three (f : Fin 128 → EReal) (p q r : ℕ) (hpq : p < q) (hqr : q < r) (hr : r < 128) :
    ∑ k : Fin 128, (if k.val = p ∨ k.val = q ∨ k.val = r then 1 else 0) * f k
      = f ⟨p, by omega⟩ + f ⟨q, by omega⟩ + f ⟨r, hr⟩ := by
  rw [← pick f p, ← pick f q, ← pick f r, ← Finset.sum_add_distrib, ← Finset.sum_add_distrib]
  refine Finset.sum_congr rfl fun k _ => ?_
  by_cases h1 : k.val = p
  · rw [if_pos (.inl h1), if_pos h1, if_neg (by omega), if_neg (by omega)]; simp
  by_cases h2 : k.val = q
  · rw [if_pos (.inr (.inl h2)), if_neg h1, if_pos h2, if_neg (by omega)]; simp
  by_cases h3 : k.val = r
  · rw [if_pos (.inr (.inr h3)), if_neg h1, if_neg h2, if_pos h3]; simp
  · rw [if_neg (by omega), if_neg h1, if_neg h2, if_neg h3]; simp

/-- A marked row of the batch rows after the first picks out its token's extended row. -/
theorem other_sum (v : Vec Ideal S1024x1 .i32) (i : Fin 1024) (hv : (v (ix2 i 0)).toNat < 15) (f : Fin 128 → EReal) :
    ∑ k : Fin 128, ones (other v) (ix2 i k) * f k = f ⟨80 + (v (ix2 i 0)).toNat, by omega⟩ := by
  rw [← pick f]
  refine Finset.sum_congr rfl fun k _ => congrArg (· * f k) ?_
  rw [ones_apply]
  exact if_congr (other_apply v i k hv) rfl rfl

/-- A row lane lies among the lanes from 16 to 46. -/
theorem rowLane_bound (w r : BitVec 32) (hr : r.toNat < 30) : 16 ≤ rowLane w r ∧ rowLane w r < 47 := by
  unfold rowLane; split_ifs <;> omega

/-- A column lane lies among the lanes from 48 to 78. -/
theorem colLane_bound (w c : BitVec 32) (hc : c.toNat < 30) : 48 ≤ colLane w c ∧ colLane w c < 79 := by
  unfold colLane; split_ifs <;> omega

/-- A marked row of the first batch row picks out the sum of its token's, its grid row's and its grid column's rows. -/
theorem leading_sum (v r c : Vec Ideal S1024x1 .i32) (i : Fin 1024) (hv : (v (ix2 i 0)).toNat < 15)
    (hr : (r (ix2 i 0)).toNat < 30) (hc : (c (ix2 i 0)).toNat < 30) (f : Fin 128 → EReal) :
    ∑ k : Fin 128, ones (leading v r c) (ix2 i k) * f k
      = f ⟨(v (ix2 i 0)).toNat, by omega⟩
        + f ⟨rowLane (v (ix2 i 0)) (r (ix2 i 0)), by have := rowLane_bound (v (ix2 i 0)) _ hr; omega⟩
        + f ⟨colLane (v (ix2 i 0)) (c (ix2 i 0)), by have := colLane_bound (v (ix2 i 0)) _ hc; omega⟩ := by
  have hR := rowLane_bound (v (ix2 i 0)) _ hr
  have hC := colLane_bound (v (ix2 i 0)) _ hc
  rw [← pick_three f _ _ _ (by omega) (by omega) (by omega)]
  refine Finset.sum_congr rfl fun k _ => congrArg (· * f k) ?_
  rw [ones_apply]
  exact if_congr (leading_apply v r c i k hv hr hc) rfl rfl

end Cert.Lookup
-- ==== Proof.Embed.lean ====
/- The kernel's output block: each entry is a normalised row, scaled and shifted. -/
module

public import proofs.«01_k».proof.Proof.Lookup

@[expose] public section

noncomputable section

namespace Cert.Embed

open Idealize.ShloMosaic Cert.KernelIdeal Cert.KernelIdeal.Gen Cert.Scan Cert.LayerNorm Cert.Spec Cert.Prologue Cert.Lookup

/-- The kernel's normalisation of a centred row. -/
def scaled (x : Row) (gamma beta : Mat 1 768) : Row := fun d =>
  x d * Ideal.rsqrt ((∑ k, x k * x k) * invD + eps) * gamma (ix2 0 d) + beta (ix2 0 d)

variable (pos : Vec Ideal S1024x768 .f32) (gamma beta : FVec Ideal S1x768 .f32) (v78 : FVec Ideal S4096x768 .f32)

/-- The positions less their means. -/
theorem pos_apply (i : Fin 1024) (d : Fin 768) :
    k1_pay12 pos (k1_pay11 pos) (ix2 i d) = cen (fun k => pos (ix2 i k)) d := by
  unfold k1_pay12 k1_pay11
  rw [inv_d]
  unfold cen
  pointwise

/-- The normalisation of one block. -/
theorem last_apply (x : FVec Ideal S1024x768 .f32) (i : Fin 1024) (d : Fin 768) :
    k1_pay1 gamma beta x (ix3 0 i d) = scaled (fun k => x (ix2 i k)) gamma beta d := by
  unfold k1_pay1
  rw [inv_d]
  unfold scaled
  rw [← ofBits_eps]
  pointwise

/-- A block of the looked-up sums plus the centred positions. -/
theorem block_apply (off : ℕ) (hs : S4096x768.Slices ![off, 0] S1024x768) (i : Fin 1024) (hi : off + i.val < 4096) (k : Fin 768) :
    addf (extractStridedSlice S1024x768 ![off, 0] v78 hs) (k1_pay12 pos (k1_pay11 pos)) (ix2 i k)
      = v78 (ix2 ⟨off + i.val, hi⟩ k) + cen (fun d => pos (ix2 i d)) k := by
  refine congrArg₂ (· + ·) ?_ (pos_apply ..)
  rw [Pointwise.extractStridedSlice_apply]
  refine congrArg v78 ?_
  pointwise

variable (x0 : Vec Ideal S1024x4 .i32) (x1 x2 : Vec Ideal S1024x1 .i32) (T : Vec Ideal S128x768 .f32) (x5 x6 : Vec Ideal S1x768 .f32)

/-- Column `b` of the ids. -/
def column (b : Fin 4) : Vec Ideal S1024x1 .i32 := fun j => x0 (ix2 (⟨(j 0).val, (j 0).isLt⟩ : Fin 1024) b)

/-- An entry of a column of the block of ids. -/
theorem column_apply (b : Fin 4) (i : Fin 1024) : column x0 b (ix2 i 0) = x0 (ix2 i b) := rfl

/-- Loading one column of the block of ids gives that column. -/
theorem ld_col (off : Fin 2 → ℕ) (inb) (b : Fin 4) (h0 : off 0 = 0) (h1 : off 1 = b.val) :
    View.ld (Val := Elt Ideal) (e' := .i32) x0 (Rect.unit (s := S1024x4) off S1024x1.size inb) = column x0 b := by
  funext j
  refine View.ld_unit_apply_of _ _ _ _ j _ fun a => ?_
  obtain rfl | rfl : a = 0 ∨ a = 1 := by revert a; decide
  · show (j 0).val = off 0 + (j 0).val
    omega
  · have : (j 1).val < 1 := (j 1).isLt
    show b.val = off 1 + (j 1).val
    omega

/-- The looked-up sums are the products of the marks with the table. -/
theorem sums_eq : k1_pay18 x0 x1 x2 pos T x5 x6 = product T (ones (leading (column x0 0) x1 x2))
    (ones (other (column x0 1))) (ones (other (column x0 2))) (ones (other (column x0 3))) := by
  have h3 : k1_pay3 (View.ld T r1_1) = T :=
    (shapeCast_self _ _).trans (View.ld_unit_zero (by funext a; fin_cases a <;> rfl) _ T)
  unfold k1_pay18
  rw [h3, View.ld_unit_zero (by funext a; fin_cases a <;> rfl) _ x1,
    View.ld_unit_zero (by funext a; fin_cases a <;> rfl) _ x2, ld_col x0 _ _ 0 rfl rfl, ld_col x0 _ _ 1 rfl rfl,
    ld_col x0 _ _ 2 rfl rfl, ld_col x0 _ _ 3 rfl rfl]
  rfl

/-- The sum of the table's rows that token `i` of batch row `b` looks up. -/
def look (b : Fin 4) (i : Fin 1024) : Row := fun d =>
  if b.val = 0 then ∑ k : Fin 128, ones (leading (column x0 0) x1 x2) (ix2 i k) * T (ix2 k d)
  else ∑ k : Fin 128, ones (other (column x0 b)) (ix2 i k) * T (ix2 k d)

/-- The sums that block `b` of the output starts from. -/
theorem sums_apply (b : Fin 4) (off : ℕ) (ho : off = 1024 * b.val) (hs : S4096x768.Slices ![off, 0] S1024x768) (i : Fin 1024) :
    (fun k => addf (extractStridedSlice S1024x768 ![off, 0] (k1_pay18 x0 x1 x2 pos T x5 x6) hs)
      (k1_pay12 pos (k1_pay11 pos)) (ix2 i k)) = look x0 x1 x2 T b i + cen (fun d => pos (ix2 i d)) := by
  subst ho
  funext k
  have hb := b.isLt
  rw [block_apply _ _ _ _ _ (by omega), sums_eq]
  refine congrArg (· + cen (fun d => pos (ix2 i d)) k) ?_
  obtain rfl | rfl | rfl | rfl : b = 0 ∨ b = 1 ∨ b = 2 ∨ b = 3 := by revert b; decide
  · exact (congrArg (fun n => product T _ _ _ _ (ix2 n k)) (Fin.ext (Nat.zero_add _))).trans (product0 T _ _ _ _ i k)
  · exact product1 T _ _ _ _ i k
  · exact product2 T _ _ _ _ i k
  · exact product3 T _ _ _ _ i k

/-- A piece of the output block read at an index. -/
theorem tile (n : ℕ) (w : S1x1024x768.Idx → EReal) (b : Fin 4) (i : Fin 1024) (d : Fin 768) (v : EReal)
    (h : n = b.val → w (ix3 0 i d) = v) :
    View.TileAt (Val := Elt Ideal) (e := .f32) (S := S4x1024x768) (ix3 b i d) ![n, 0, 0] S1x1024x768.size w v := by
  intro x hx
  have h0 : b.val = n + (x 0).val := hx 0
  have h1 : i.val = 0 + (x 1).val := hx 1
  have h2 : d.val = 0 + (x 2).val := hx 2
  have hx0 : (x 0).val < 1 := (x 0).isLt
  rw [← h (by omega)]
  refine congrArg w (funext fun a => Fin.ext ?_)
  obtain rfl | rfl | rfl : a = 0 ∨ a = 1 ∨ a = 2 := by revert a; decide
  · show (x 0).val = 0; omega
  · show (x 1).val = i.val; omega
  · show (x 2).val = d.val; omega

/-- The output block's entries. -/
theorem out_apply (b : Fin 4) (i : Fin 1024) (d : Fin 768) :
    out1_7 x0 x1 x2 pos T x5 x6 (ix3 b i d)
      = scaled (look x0 x1 x2 T b i + cen (fun d => pos (ix2 i d))) x5 x6 d := by
  have h3 : View.ld pos r1_0 = pos := View.ld_unit_zero (by funext a; fin_cases a <;> rfl) _ pos
  have h5 : k1_pay16 x0 x1 x2 pos T x5 x6 = x5 :=
    (shapeCast_self _ _).trans (View.ld_unit_zero (by funext a; fin_cases a <;> rfl) _ x5)
  have h6 : k1_pay17 x0 x1 x2 pos T x5 x6 = x6 :=
    (shapeCast_self _ _).trans (View.ld_unit_zero (by funext a; fin_cases a <;> rfl) _ x6)
  have h9 : k1_pay19 x0 x1 x2 pos T x5 x6 = k1_pay11 pos := by unfold k1_pay19; rw [h3]
  have hs := sums_apply pos x0 x1 x2 T x5 x6
  have step : ∀ (off : ℕ) (hsl), off = 1024 * b.val →
      k1_pay1 x5 x6 (addf (extractStridedSlice S1024x768 ![off, 0] (k1_pay18 x0 x1 x2 pos T x5 x6) hsl)
        (k1_pay12 pos (k1_pay11 pos))) (ix3 0 i d)
        = scaled (look x0 x1 x2 T b i + cen (fun d => pos (ix2 i d))) x5 x6 d := fun off hsl ho =>
    (last_apply x5 x6 _ i d).trans (congrArg (scaled · x5 x6 d) (hs b off ho hsl i))
  unfold out1_7
  rw [h3, h5, h6, h9]
  refine View.canon_eq_of_allAt _ _ _ (cover1_7 _ _ _ _ _) ?_
  refine View.allAt_cons_unit _ _ _ _ _ (tile 3 _ b i d _ fun h => ?_) ?_
  · exact step 3072 slices_S4096x768_o3072_0_S1024x768 (by omega)
  refine View.allAt_cons_unit _ _ _ _ _ (tile 2 _ b i d _ fun h => ?_) ?_
  · exact step 2048 slices_S4096x768_o2048_0_S1024x768 (by omega)
  refine View.allAt_cons_unit _ _ _ _ _ (tile 1 _ b i d _ fun h => ?_) ?_
  · exact step 1024 slices_S4096x768_o1024_0_S1024x768 (by omega)
  refine View.allAt_cons_unit _ _ _ _ _ (tile 0 _ b i d _ fun h => ?_) (View.allAt_nil _ _)
  · exact step 0 slices_S4096x768_o0_0_S1024x768 (by omega)

end Cert.Embed
-- ==== Proof.Block.lean ====
/- The kernel's output block: each entry is the normalised embedding of its token. -/
module

public import proofs.«01_k».proof.Proof.Embed

@[expose] public section

noncomputable section

namespace Cert.Block

open Idealize.ShloMosaic Cert.KernelIdeal Cert.KernelIdeal.Gen Cert.Scan Cert.LayerNorm Cert.Spec Cert.Prologue Cert.Lookup
open Cert.Embed

/-! ## The rows of the table -/

section Raw
variable (W : Mat 768 768) (re ce : Mat 30 384) (emb : Mat 15 768)

/-- The table's row of a token is the token's embedding. -/
theorem raw_tok (w : BitVec 32) (hw : w.toNat < 15) : raw W re ce emb w.toNat = tokRow emb w := by
  funext d
  refine (dif_pos hw).trans (congrArg (fun n => emb (ix2 n d)) (Fin.ext ?_))
  show w.toNat = min w.toNat 14
  omega

/-- The table's row at a token's row lane: the projected row embedding for a colour, zero otherwise. -/
theorem raw_row (w r : BitVec 32) (hr : r.toNat < 30) :
    raw W re ce emb (rowLane w r) = if isCol w then rowProj re W ⟨r.toNat, hr⟩ else 0 := by
  funext d
  unfold raw rowLane
  split_ifs <;> first
    | omega
    | rfl
    | exact congrArg (rowProj re W · d) (Fin.ext (by simp only; omega))

/-- The table's row at a token's column lane: the projected column embedding for a colour, zero otherwise. -/
theorem raw_col (w c : BitVec 32) (hc : c.toNat < 30) :
    raw W re ce emb (colLane w c) = if isCol w then colProj ce W ⟨c.toNat, hc⟩ else 0 := by
  funext d
  unfold raw colLane
  split_ifs <;> first
    | omega
    | rfl
    | exact congrArg (colProj ce W · d) (Fin.ext (by simp only; omega))

/-- A token id is at most nine exactly when it is a colour. -/
theorem isCol_iff (w : BitVec 32) (hw : w.toNat < 15) : w.toNat ≤ 9 ↔ isCol w = true := by
  obtain ⟨n, hn, rfl⟩ : ∃ n, n < 15 ∧ w = BitVec.ofNat 32 n := ⟨w.toNat, hw, by simp⟩
  interval_cases n <;> decide

/-- The table's row `80 + w`: the token's embedding, with the projections of position zero added for a colour. -/
theorem raw_extended (w : BitVec 32) (hw : w.toNat < 15) : raw W re ce emb (80 + w.toNat)
    = tokRow emb w + if isCol w then rowProj re W 0 + colProj ce W 0 else 0 := by
  funext d
  unfold raw
  rw [dif_neg (by omega), dif_neg (by omega), dif_neg (by omega), dif_neg (by omega), dif_neg (by omega),
    dif_neg (by omega), dif_pos (by omega)]
  refine congrArg₂ (· + ·) (congrArg (fun n => emb (ix2 n d)) (Fin.ext ?_)) ?_
  · show 80 + w.toNat - 80 = min w.toNat 14
    omega
  · exact congrFun (if_congr ((by rw [Nat.add_sub_cancel_left] : _ ↔ _).trans (isCol_iff w hw)) rfl rfl) d

end Raw

variable (x0 : Vec Ideal S1024x4 .i32) (x1 x2 : Vec Ideal S1024x1 .i32) (T : Vec Ideal S128x768 .f32) (x5 x6 : Vec Ideal S1x768 .f32)
  (pos : Vec Ideal S1024x768 .f32) (W : Mat 768 768) (re ce : Mat 30 384) (emb : Mat 15 768)

/-- The embedding of one token, from its grid cell. -/
def embedAt (w : BitVec 32) (p : Row) (r c : Fin 30) : Row :=
  tokRow emb w + p + if isCol w then rowProj re W r + colProj ce W c else 0

/-- What a token looks up, with its centred position, is its centred embedding (or both have an infinite entry). -/
theorem same (hT : ∀ n d, T (ix2 n d) = cen (raw W re ce emb n.val) d) (b : Fin 4) (i : Fin 1024)
    (h0 : (x0 (ix2 i b)).toNat < 15) (h1 : (x1 (ix2 i 0)).toNat < 30) (h2 : (x2 (ix2 i 0)).toNat < 30) (p : Row) :
    Same (look x0 x1 x2 T b i + cen p) (cen (embedAt W re ce emb (x0 (ix2 i b)) p
      (if b.val = 0 then ⟨_, h1⟩ else 0) (if b.val = 0 then ⟨_, h2⟩ else 0))) := by
  by_cases hb : b.val = 0
  · obtain rfl : b = 0 := Fin.ext hb
    have e : look x0 x1 x2 T 0 i = cen (tokRow emb (x0 (ix2 i 0)))
        + cen (if isCol (x0 (ix2 i 0)) then rowProj re W ⟨_, h1⟩ else 0)
        + cen (if isCol (x0 (ix2 i 0)) then colProj ce W ⟨_, h2⟩ else 0) := by
      funext d
      rw [← raw_tok W re ce emb _ h0, ← raw_row W re ce emb, ← raw_col W re ce emb]
      refine (if_pos rfl).trans ((leading_sum (column x0 0) x1 x2 i h0 h1 h2 fun k => T (ix2 k d)).trans ?_)
      simp only [hT]
      rfl
    rw [e, if_pos hb, if_pos hb]
    refine (((cen_add _ _).add_right _).trans (cen_add _ _)).add_right _ |>.trans ((cen_add _ _).trans ?_)
    refine .inl (congrArg cen ?_)
    unfold embedAt
    split_ifs
    · abel
    · abel
  · have e : look x0 x1 x2 T b i = cen (tokRow emb (x0 (ix2 i b))
        + if isCol (x0 (ix2 i b)) then rowProj re W 0 + colProj ce W 0 else 0) := by
      funext d
      rw [← raw_extended W re ce emb _ h0]
      refine (if_neg hb).trans ((other_sum (column x0 b) i h0 fun k => T (ix2 k d)).trans ?_)
      exact hT _ d
    rw [e, if_neg hb, if_neg hb]
    refine (cen_add _ _).trans (.inl (congrArg cen ?_))
    unfold embedAt
    abel

/-- The kernel's normalisation of such a row is the normalised embedding. -/
theorem scaled_eq {u x : Row} (h : Same u (cen x)) (gamma beta : (⟨1, ![768]⟩ : Shape).Idx → EReal)
    (hg : ∀ d, x5 (ix2 0 d) = gamma (ix1 d)) (hb : ∀ d, x6 (ix2 0 d) = beta (ix1 d)) (d : Fin 768) :
    scaled u x5 x6 d = normed x gamma beta d := by
  unfold scaled normed
  rw [norm_eq h eps eps_pos, hg, hb]

/-- The output block's entries are normalised embeddings. -/
theorem out_eq (hT : ∀ n d, T (ix2 n d) = cen (raw W re ce emb n.val) d) (b : Fin 4) (i : Fin 1024)
    (h0 : (x0 (ix2 i b)).toNat < 15) (h1 : (x1 (ix2 i 0)).toNat < 30) (h2 : (x2 (ix2 i 0)).toNat < 30)
    (gamma beta : (⟨1, ![768]⟩ : Shape).Idx → EReal)
    (hg : ∀ d, x5 (ix2 0 d) = gamma (ix1 d)) (hb : ∀ d, x6 (ix2 0 d) = beta (ix1 d)) (d : Fin 768) :
    out1_7 x0 x1 x2 pos T x5 x6 (ix3 b i d) = normed (embedAt W re ce emb (x0 (ix2 i b)) (fun d => pos (ix2 i d))
      (if b.val = 0 then ⟨_, h1⟩ else 0) (if b.val = 0 then ⟨_, h2⟩ else 0)) gamma beta d :=
  (out_apply pos x0 x1 x2 T x5 x6 b i d).trans
    (scaled_eq x5 x6 (same x0 x1 x2 T W re ce emb hT b i h0 h1 h2 _) gamma beta hg hb d)

end Cert.Block
-- ==== Proof.Regions.lean ====
/- The arrays that the kernel's two pallas calls leave. -/
module

public import proofs.«01_k».proof.Proof.GridKernel
public import proofs.«01_k».proof.Proof.Block
public import Idealize.ShloMosaic.Lib.Claim

@[expose] public section

noncomputable section

namespace Cert.Regions

open Idealize.ShloMosaic Idealize.ShloMosaic.TcCoe Cert.KernelIdeal Cert.KernelIdeal.Gen Cert.Scan Cert.LayerNorm Cert.Spec
open Cert.Prologue Cert.Block

variable (V : (c : Dev nD) → (b : Ref sig .tc) → Buf (Elt Ideal) ((c : Thread nD τ).loc b)) (c : Dev nD)

/-! ## The second call's blocks -/

/-- The block that each window of the second call takes at a point. -/
theorem index1 (t : Fin cfg1.N) : win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, t.val, 0] := by
  revert t
  decide +kernel

/-- The place in the whole array of row `i` of block `t`. -/
def place (t : Fin cfg1.N) (i : Fin 1024) : Fin 8192 := ⟨t.val * 1024 + i.val, by
  have : t.val < 8 := t.isLt
  omega⟩

/-- The ids' block at a point, by entry. -/
theorem ids_block (t : Fin cfg1.N) (i : Fin 1024) (b : Fin 4) :
    iblk1 V c 0 t (ix2 i b) = V c main_v2 (ix2 (place t i) b) := by
  have h := index1 t
  blk_ext [iblk1, place, h.1]

/-- The row numbers' block at a point, by entry. -/
theorem row_block (t : Fin cfg1.N) (i : Fin 1024) :
    iblk1 V c 1 t (ix2 i 0) = V c main_v3 (ix2 (place t i) 0) := by
  have h := index1 t
  blk_ext [iblk1, place, h.2.1]

/-- The column numbers' block at a point, by entry. -/
theorem col_block (t : Fin cfg1.N) (i : Fin 1024) :
    iblk1 V c 2 t (ix2 i 0) = V c main_v4 (ix2 (place t i) 0) := by
  have h := index1 t
  blk_ext [iblk1, place, h.2.2.1]

/-- The position embeddings' block at a point, by entry. -/
theorem pos_block (t : Fin cfg1.N) (i : Fin 1024) (d : Fin 768) :
    iblk1 V c 3 t (ix2 i d) = V c main_arg2 (ix2 (place t i) d) := by
  have h := index1 t
  blk_ext [iblk1, place, h.2.2.2.1]

/-- The table's block is the table. -/
theorem table_block (t : Fin cfg1.N) (n : Fin 128) (d : Fin 768) :
    iblk1 V c 4 t (ix2 n d) = V c main_v1_0 (ix2 n d) := by
  have h := index1 t
  blk_ext [iblk1, h.2.2.2.2.1]

/-- The scale's block is the scale. -/
theorem gamma_block (t : Fin cfg1.N) (d : Fin 768) : iblk1 V c 5 t (ix2 0 d) = V c main_v5 (ix2 0 d) := by
  have h := index1 t
  blk_ext [iblk1, h.2.2.2.2.2.1]

/-- The shift's block is the shift. -/
theorem beta_block (t : Fin cfg1.N) (d : Fin 768) : iblk1 V c 6 t (ix2 0 d) = V c main_v6 (ix2 0 d) := by
  have h := index1 t
  blk_ext [iblk1, h.2.2.2.2.2.2.1]

/-- Equal tokens, positions, rows and columns have equal embeddings. -/
theorem embedAt_congr {W : Mat 768 768} {re ce : Mat 30 384} {emb : Mat 15 768} {w w' : BitVec 32} {p p' : Row} {r r' k k' : Fin 30}
    (hw : w = w') (hp : p = p') (hr : r = r') (hk : k = k') : embedAt W re ce emb w p r k = embedAt W re ce emb w' p' r' k' := by
  subst hw hp hr hk
  rfl

/-- Equal numbers give equal positions in the grid. -/
theorem cell_congr (b : Fin 4) {x y : ℕ} (hx : x < 30) (hy : y < 30) (h : x = y) :
    (if b.val = 0 then ⟨x, hx⟩ else 0 : Fin 30) = if b.val = 0 then ⟨y, hy⟩ else 0 := by
  subst h
  rfl

/-- The second call's result, from what its operands hold: every entry is a normalised embedding. -/
theorem result (ids : Ids) (rows cols : Fin 8192 → BitVec 32) (pos : Mat 8192 768) (W : Mat 768 768) (re ce : Mat 30 384)
    (emb : Mat 15 768) (gamma beta : (⟨1, ![768]⟩ : Shape).Idx → EReal)
    (hids : ∀ t b, (V c main_v2 (ix2 t b) : BitVec 32) = ids (ix2 b t))
    (hrow : ∀ t, (V c main_v3 (ix2 t 0) : BitVec 32) = rows t) (hcol : ∀ t, (V c main_v4 (ix2 t 0) : BitVec 32) = cols t)
    (hpos : ∀ t d, (V c main_arg2 (ix2 t d) : EReal) = pos (ix2 t d))
    (hT : ∀ n d, (V c main_v1_0 (ix2 n d) : EReal) = cen (raw W re ce emb n.val) d)
    (hg : ∀ d, (V c main_v5 (ix2 0 d) : EReal) = gamma (ix1 d)) (hb : ∀ d, (V c main_v6 (ix2 0 d) : EReal) = beta (ix1 d))
    (h0 : ∀ j, (ids j).toNat < 15) (h1 : ∀ t, (rows t).toNat < 30) (h2 : ∀ t, (cols t).toNat < 30) :
    ((dat1 V c).arrAt 7 cfg1.N : S4x8192x768.Idx → EReal) = fun j =>
      normed (embedAt W re ce emb (ids (ix2 (j 0) (j 1))) (fun d => pos (ix2 (j 1) d))
        (if (j 0).val = 0 then ⟨_, h1 (j 1)⟩ else 0) (if (j 0).val = 0 then ⟨_, h2 (j 1)⟩ else 0)) gamma beta (j 2) := by
  refine (dat1 V c).arrAt_eq_of_covers 7 _ (by decide +kernel) fun t hf y => ?_
  obtain ⟨b, i, d, rfl⟩ : ∃ (b : Fin 4) (i : Fin 1024) (d : Fin 768), y = ix3 b i d :=
    ⟨y 0, y 1, y 2, funext fun a => by fin_cases a <;> rfl⟩
  have he : ((cfg1.win 7).blk t).view.emb (ix3 b i d) = ix3 b (place t i) d := by
    have h := index1 t
    blk_ext [place, h.2.2.2.2.2.2.2]
  rw [he]
  blk_simp
  rw [after1_7]
  have e0 := (ids_block V c t i b).trans (hids _ _)
  have e1 := (row_block V c t i).trans (hrow _)
  have e2 := (col_block V c t i).trans (hcol _)
  have b1 : (iblk1 V c 1 t (ix2 i 0) : BitVec 32).toNat < 30 := e1 ▸ h1 _
  have b2 : (iblk1 V c 2 t (ix2 i 0) : BitVec 32).toNat < 30 := e2 ▸ h2 _
  refine (out_eq _ _ _ _ _ _ _ W re ce emb (fun n k => (table_block V c t n k).trans (hT n k)) b i (e0 ▸ h0 _) b1 b2
    gamma beta (fun k => (gamma_block V c t k).trans (hg k)) (fun k => (beta_block V c t k).trans (hb k)) d).trans ?_
  refine congrArg (normed · gamma beta d) (embedAt_congr e0 (funext fun k => (pos_block V c t i k).trans (hpos _ k)) ?_ ?_)
  · exact cell_congr b b1 (h1 _) (congrArg BitVec.toNat e1)
  · exact cell_congr b b2 (h2 _) (congrArg BitVec.toNat e2)

/-! ## The first call -/

/-- Each window of the first call takes the whole of its array. -/
theorem index0 (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by
  revert t
  decide +kernel

/-- The first call's operands are read whole. -/
theorem whole0_0 (t : Fin cfg0.N) (k : Fin 8192) : iblk0 V c 0 t (ix2 0 k) = V c main_v0 (ix2 0 k) := by
  have h := index0 t
  blk_ext [iblk0, h.1]

/-- The token embeddings' block is the whole array. -/
theorem whole0_1 (t : Fin cfg0.N) : (iblk0 V c 1 t : S15x768.Idx → EReal) = V c main_arg1 := by
  have h := index0 t
  funext j
  blk_ext [iblk0, h.2.1]

/-- The row embeddings' block is the whole array. -/
theorem whole0_2 (t : Fin cfg0.N) : (iblk0 V c 2 t : S30x384.Idx → EReal) = V c main_arg3 := by
  have h := index0 t
  funext j
  blk_ext [iblk0, h.2.2.1]

/-- The column embeddings' block is the whole array. -/
theorem whole0_3 (t : Fin cfg0.N) : (iblk0 V c 3 t : S30x384.Idx → EReal) = V c main_arg4 := by
  have h := index0 t
  funext j
  blk_ext [iblk0, h.2.2.2.1]

/-- The projection's block is the whole array. -/
theorem whole0_4 (t : Fin cfg0.N) : (iblk0 V c 4 t : S768x768.Idx → EReal) = V c main_arg5 := by
  have h := index0 t
  funext j
  blk_ext [iblk0, h.2.2.2.2.1]

/-- The first call's table. -/
theorem table : ((dat0 V c).arrAt 5 cfg0.N : S128x768.Idx → EReal) = fun j =>
    cen (raw (V c main_arg5) (V c main_arg3) (V c main_arg4) (V c main_arg1) (j 0).val) (j 1) := by
  refine (dat0 V c).arrAt_eq_of_covers 5 _ (by decide +kernel) fun t hf y => ?_
  obtain ⟨n, d, rfl⟩ : ∃ (n : Fin 128) (d : Fin 768), y = ix2 n d := ⟨y 0, y 1, funext fun a => by fin_cases a <;> rfl⟩
  have he : ((cfg0.win 5).blk t).view.emb (ix2 n d) = ix2 n d := by
    have h := index0 t
    blk_ext [h.2.2.2.2.2.1]
  rw [he]
  blk_simp
  rw [after0_5, whole0_1, whole0_2, whole0_3, whole0_4]
  unfold out0_5
  rw [View.canon_cons_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]
  exact table_apply _ _ _ _ n d

variable (t : ℕ → BitVec 32) (ht : ∀ k : Fin 8192, (V c main_v0 (ix2 0 k) : BitVec 32) = t k.val)
include ht

/-- The first call's tokens. -/
theorem reads (p : Fin cfg0.N) : GridKernel.Reads (w := 32) (iblk0 V c 0 p : S1x8192.Idx → BitVec 32) t := by
  intro i
  obtain ⟨o, k, rfl⟩ : ∃ (o : Fin 1) (k : Fin 8192), i = ix2 o k := ⟨i 0, i 1, funext fun a => by fin_cases a <;> rfl⟩
  obtain rfl : o = 0 := Subsingleton.elim _ _
  exact (whole0_0 V c p k).trans (ht k)

/-- The first call's row numbers. -/
theorem rows : ((dat0 V c).arrAt 6 cfg0.N : S1x8192.Idx → BitVec 32) = fun j => rowOut t (j 1).val := by
  refine (dat0 V c).arrAt_eq_of_covers 6 _ (by decide +kernel) fun p hf y => ?_
  obtain ⟨o, k, rfl⟩ : ∃ (o : Fin 1) (k : Fin 8192), y = ix2 o k := ⟨y 0, y 1, funext fun a => by fin_cases a <;> rfl⟩
  have he : ((cfg0.win 6).blk p).view.emb (ix2 o k) = ix2 o k := by
    have h := index0 p
    blk_ext [h.2.2.2.2.2.2.1]
  rw [he]
  blk_simp
  rw [after0_6]
  exact GridKernel.rows_apply _ t (reads V c t ht p) _ _ _ _ (ix2 o k)

/-- The first call's column numbers. -/
theorem cols : ((dat0 V c).arrAt 7 cfg0.N : S1x8192.Idx → BitVec 32) = fun j => colOut t (j 1).val := by
  refine (dat0 V c).arrAt_eq_of_covers 7 _ (by decide +kernel) fun p hf y => ?_
  obtain ⟨o, k, rfl⟩ : ∃ (o : Fin 1) (k : Fin 8192), y = ix2 o k := ⟨y 0, y 1, funext fun a => by fin_cases a <;> rfl⟩
  have he : ((cfg0.win 7).blk p).view.emb (ix2 o k) = ix2 o k := by
    have h := index0 p
    blk_ext [h.2.2.2.2.2.2.2]
  rw [he]
  blk_simp
  rw [after0_7]
  exact GridKernel.cols_apply _ t (reads V c t ht p) _ _ _ _ (ix2 o k)

end Cert.Regions
-- ==== Proof.KernelValue.lean ====
/- The kernel's result: the normalised embedding of each token. -/
module

public import proofs.«01_k».proof.Proof.Regions

@[expose] public section

noncomputable section

namespace Cert.KernelValue

open Idealize.ShloMosaic Idealize.ShloMosaic.TcCoe Idealize.ShloMosaic.StableHlo Cert.KernelIdeal Cert.KernelIdeal.Gen
open Cert.Scan Cert.LayerNorm Cert.Spec Cert.Prologue Cert.Block

/-! ## The host's operations, over any contents -/

section Host
variable (V : Valuation τ sig (Elt Ideal))

/-- The first call's ids are the first row of the ids. -/
theorem sliced (k : Fin 8192) : (after hostOps0 V (Proc.devRef .tc main_v0) : S1x8192.Idx → BitVec 32) (ix2 0 k)
    = (V (Proc.devRef .tc main_arg0) : Ids) (ix2 0 k) := by
  after_results_simp
  pointwise

/-- The second call's ids are the transposed ids. -/
theorem turned (t : Fin 8192) (b : Fin 4) :
    (after hostOps1 V (Proc.devRef .tc main_v2) : S8192x4.Idx → BitVec 32) (ix2 t b)
      = (V (Proc.devRef .tc main_arg0) : Ids) (ix2 b t) := by
  after_results_simp
  pointwise

/-- The second call's row numbers are the first call's, as a column. -/
theorem turned_rows (t : Fin 8192) :
    (after hostOps1 V (Proc.devRef .tc main_v3) : S8192x1.Idx → BitVec 32) (ix2 t 0)
      = (V (Proc.devRef .tc main_v1_1) : S1x8192.Idx → BitVec 32) (ix2 0 t) := by
  after_results_simp
  pointwise

/-- The second call's column numbers are the first call's, as a column. -/
theorem turned_cols (t : Fin 8192) :
    (after hostOps1 V (Proc.devRef .tc main_v4) : S8192x1.Idx → BitVec 32) (ix2 t 0)
      = (V (Proc.devRef .tc main_v1_2) : S1x8192.Idx → BitVec 32) (ix2 0 t) := by
  after_results_simp
  pointwise

/-- The second call's scale is gamma, as a row. -/
theorem gamma_row (d : Fin 768) : (after hostOps1 V (Proc.devRef .tc main_v5) : S1x768.Idx → EReal) (ix2 0 d)
    = (V (Proc.devRef .tc main_arg6) : S768.Idx → EReal) (ix1 d) := by
  after_results_simp
  pointwise

/-- The second call's shift is beta, as a row. -/
theorem beta_row (d : Fin 768) : (after hostOps1 V (Proc.devRef .tc main_v6) : S1x768.Idx → EReal) (ix2 0 d)
    = (V (Proc.devRef .tc main_arg7) : S768.Idx → EReal) (ix1 d) := by
  after_results_simp
  pointwise

end Host

/-! ## The run's contents -/

variable (m : (ℓ : Loc nD τ sig) → Buf (Elt Ideal) ℓ) (ρ : Dev nD → PrngReg) (c : Dev nD)

/-- An argument as launched. -/
abbrev arg (r : Ref sig .tc) := m ((c.tc : Thread nD τ).loc r)

/-- The ids. -/
abbrev ids : Ids := arg m c main_arg0

/-- The first row of the ids, read at a position, is the token there. -/
theorem first_apply (w : Ids) (k : Fin 8192) : w (ix2 0 k) = first w k.val := by
  unfold first
  rw [dif_pos k.isLt]

/-- The tokens the first call reads. -/
theorem tokens (k : Fin 8192) : (V1 m ρ c main_v0 (ix2 0 k) : BitVec 32) = first (ids m c) k.val :=
  (sliced (W0 m ρ c) k).trans (first_apply _ k)

/-- After the first call: the row number of each token of the first row. -/
theorem V2_rows : (V2 m ρ c main_v1_1 : S1x8192.Idx → BitVec 32) = fun j => rowOut (first (ids m c)) (j 1).val :=
  (W2_arr m ρ c 6).trans (Regions.rows (V1 m ρ) c _ (tokens m ρ c))

/-- After the first call: the column number of each token of the first row. -/
theorem V2_cols : (V2 m ρ c main_v1_2 : S1x8192.Idx → BitVec 32) = fun j => colOut (first (ids m c)) (j 1).val :=
  (W2_arr m ρ c 7).trans (Regions.cols (V1 m ρ) c _ (tokens m ρ c))

/-- Before the second call the table holds the centred rows. -/
theorem V3_table (n : Fin 128) (d : Fin 768) : (V3 m ρ c main_v1_0 (ix2 n d) : EReal)
    = cen (raw (arg m c main_arg5) (arg m c main_arg3) (arg m c main_arg4) (arg m c main_arg1) n.val) d := by
  have h := (W3_of m ρ c main_v1_0 (by decide)).trans ((W2_arr m ρ c 5).trans (Regions.table (V1 m ρ) c))
  refine (congrFun h (ix2 n d)).trans ?_
  rw [show V1 m ρ c main_arg5 = arg m c main_arg5 from W1_args m ρ c main_arg5 (by decide),
    show V1 m ρ c main_arg3 = arg m c main_arg3 from W1_args m ρ c main_arg3 (by decide),
    show V1 m ρ c main_arg4 = arg m c main_arg4 from W1_args m ρ c main_arg4 (by decide),
    show V1 m ρ c main_arg1 = arg m c main_arg1 from W1_args m ρ c main_arg1 (by decide)]
  rfl

/-- The kernel's result: the normalised embedding of each token. -/
theorem result_eq (hr : ∀ i, (ids m c i).toNat < 15) (b : Fin 4) (t : Fin 8192) (d : Fin 768) :
    (W4 m ρ c (Proc.devRef .tc main_v7) : S4x8192x768.Idx → EReal) (ix3 b t d)
      = normed (embed (ids m c) (arg m c main_arg1) (arg m c main_arg2) (arg m c main_arg3) (arg m c main_arg4) (arg m c main_arg5) b t)
        (arg m c main_arg6) (arg m c main_arg7) d := by
  have h := (W4_arr m ρ c 7).trans (Regions.result (V3 m ρ) c (ids m c)
    (fun t => rowOut (first (ids m c)) t.val) (fun t => colOut (first (ids m c)) t.val)
    (arg m c main_arg2) (arg m c main_arg5) (arg m c main_arg3) (arg m c main_arg4) (arg m c main_arg1)
    (arg m c main_arg6) (arg m c main_arg7)
    (fun t b => (turned (W2 m ρ c) t b).trans (congrFun (W2_args m ρ c main_arg0 (by decide)) _))
    (fun t => (turned_rows (W2 m ρ c) t).trans (congrFun (V2_rows m ρ c) _))
    (fun t => (turned_cols (W2 m ρ c) t).trans (congrFun (V2_cols m ρ c) _))
    (fun t d => congrFun (W3_args m ρ c main_arg2 (by decide)) _)
    (V3_table m ρ c)
    (fun d => (gamma_row (W2 m ρ c) d).trans (congrFun (W2_args m ρ c main_arg6 (by decide)) _))
    (fun d => (beta_row (W2 m ρ c) d).trans (congrFun (W2_args m ρ c main_arg7 (by decide)) _))
    hr (fun _ => held29_lt _) (fun _ => held29_lt _))
  exact congrFun h (ix3 b t d)

end Cert.KernelValue
-- ==== Proof.Precondition.lean ====
/- What the precondition says: every token id is one of the fifteen. -/
module

public import proofs.«01_k».proof.Proof.Gen.Pre_ids_in_range
public import Idealize.ShloMosaic.Lib.ReduceAll
public import Idealize.ShloMosaic.Lib.Affine

@[expose] public section

noncomputable section

namespace Cert.Precondition

open Idealize.ShloMosaic Cert.Pre_ids_in_range

variable {F : FTy → Type} [FloatOps F]

/-- Where the precondition holds, every token id lies below 15. -/
theorem ids_lt (ids : IVec S4x8192 32) (x1 : FVec F S15x768 .f32) (x2 : FVec F S8192x768 .f32) (x3 x4 : FVec F S30x384 .f32)
    (x5 : FVec F S768x768 .f32) (x6 x7 : FVec F S768 .f32) (j : S_.Idx) (h : fn ids x1 x2 x3 x4 x5 x6 x7 j = 1#1)
    (i : S4x8192.Idx) : (ids i).toNat < 15 := by
  dsimp only [fn] at h
  have e := IntOp.andi_eq_one.mp (Host.reduce_andi_all _ _ _ _ _ h i)
  have lo : (0 : Int) ≤ (ids i).toInt := IntOp.cmpi_sge.mp e.1
  have hi : (ids i).toInt < 15 := IntOp.cmpi_slt.mp e.2
  rw [BitVec.toInt_eq_toNat_cond] at lo hi
  split at hi <;> omega

end Cert.Precondition
-- ==== Proof.lean ====
/- The proof of the certificate's claims, assembled from the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_range
public import proofs.«01_k».proof.Proof.RefFrame
public import proofs.«01_k».proof.Proof.RefRun
public import proofs.«01_k».proof.Proof.RefValue
public import proofs.«01_k».proof.Proof.KernelRun
public import proofs.«01_k».proof.Proof.KernelValue
public import proofs.«01_k».proof.Proof.Precondition
public import Idealize.ShloMosaic.Adequacy
public import Idealize.ShloMosaic.Init

@[expose] public section

noncomputable section

namespace Cert.Proof

open Idealize.ShloMosaic Idealize.SL.Sem

/-- The shared result: each token's embedding, normalised over its 768 lanes, scaled by gamma and shifted by beta. -/
def value (m : (ℓ : Loc Cert.KernelIdeal.nD Cert.KernelIdeal.τ Cert.KernelIdeal.sig) → Buf (Elt Ideal) ℓ)
    (c : Dev Cert.KernelIdeal.nD) : Cert.KernelIdeal.S4x8192x768.Idx → EReal := fun j =>
  Spec.normed
    (Spec.embed (KernelValue.ids m c) (KernelValue.arg m c Cert.KernelIdeal.main_arg1) (KernelValue.arg m c Cert.KernelIdeal.main_arg2)
      (KernelValue.arg m c Cert.KernelIdeal.main_arg3) (KernelValue.arg m c Cert.KernelIdeal.main_arg4)
      (KernelValue.arg m c Cert.KernelIdeal.main_arg5) (j 0) (j 1))
    (KernelValue.arg m c Cert.KernelIdeal.main_arg6) (KernelValue.arg m c Cert.KernelIdeal.main_arg7) (j 2)

/-- On token ids in range, the idealized kernel and the idealized reference end with equal results. -/
theorem algebraic : Cert.algebraic_KernelIdeal_ReferenceIdeal_pre_ids_in_range := by
  intro m g m' g' pre agree
  have hr : ∀ c i, (KernelValue.ids m c i).toNat < 15 := fun c i =>
    Precondition.ids_lt _ _ _ _ _ _ _ _ (fun a => a.elim0) (congrFun (pre c) _) i
  refine ⟨value m, (θ_run _ _ _).mono (fun r h c => ?_) (KernelRun.result m g),
    (θ_run _ _ _).mono (fun r h c => ?_) (RefRun.result m' g')⟩
  · refine ⟨(h c).1.trans (funext fun j => ?_), (h c).2⟩
    obtain ⟨b, t, d, rfl⟩ : ∃ b t d, j = ix3 b t d := ⟨_, _, _, (ix3_eta j).symm⟩
    exact KernelValue.result_eq m g c (hr c) b t d
  · refine ⟨(h c).1.trans (funext fun j => ?_), (h c).2⟩
    obtain ⟨b, t, d, rfl⟩ : ∃ b t d, j = ix3 b t d := ⟨_, _, _, (ix3_eta j).symm⟩
    obtain ⟨a0, a1, a2, a3, a4, a5, a6, a7⟩ := agree c
    have e := RefValue.result_eq m' c (fun i => by
      show (RefValue.arg m' c Cert.ReferenceIdeal.main_arg0 i).toNat < 15
      exact (congrArg BitVec.toNat (congrFun a0 i)).trans_lt (hr c i)) b t d
    refine e.trans ?_
    show Spec.normed (Spec.embed (RefValue.arg m' c Cert.ReferenceIdeal.main_arg0) _ _ _ _ _ b t) _ _ d = _
    unfold RefValue.arg
    rw [a0, a1, a2, a3, a4, a5, a6, a7]
    rfl

/-- Every claim of the certificate. -/
theorem claim : Cert.Claim :=
  ⟨Cert.Kernel.Gen.facts, Cert.KernelIdeal.Gen.facts, Cert.ReferenceIdeal.Gen.facts, Cert.Pre_ids_in_range.Gen.facts,
    fun m ρ _ => Cert.Kernel.Gen.frame m ρ, fun m ρ _ => Cert.KernelIdeal.Gen.frame m ρ,
    fun m ρ _ => Cert.KernelIdeal.Gen.frame m ρ, fun m ρ _ => Cert.RefFrame.frame m ρ,
    fun m ρ _ => Cert.RefFrame.frame m ρ,
    IdealRules.named_const.statement _ _ _ _ _ rfl,
    algebraic⟩

end Cert.Proof

end
